-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_and_q_scales [hPre_lens_and_q_scales : Cert.Pre_lens_and_q_scales.Facts] (m : (ℓ : Loc Cert.KernelIdeal.nD Cert.KernelIdeal.τ Cert.KernelIdeal.sig) → Buf (Elt Ideal) ℓ) : Prop :=
  ∀ c : Dev Cert.KernelIdeal.nD,
    (Cert.Pre_lens_and_q_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_lens_and_q_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_and_q_scales [hPre_lens_and_q_scales : Cert.Pre_lens_and_q_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_and_q_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_lens_and_q_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_lens_and_q_scales [hKernelIdeal : Cert.KernelIdeal.Facts] [hPre_lens_and_q_scales : Cert.Pre_lens_and_q_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_and_q_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_lens_and_q_scales [hReferenceIdeal : Cert.ReferenceIdeal.Facts] [hPre_lens_and_q_scales : Cert.Pre_lens_and_q_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_and_q_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "qsc" .f32 0x3DAE1A93#32 (((Real.log 2)⁻¹ * (Real.sqrt 288)⁻¹ : ℝ) : EReal)
  ∧ IdealRules.named_const.Statement Cert.KernelIdeal.κ "mask" .f32 0xF149F2CA#32 ⊥

def algebraic_KernelIdeal_ReferenceIdeal_pre_lens_and_q_scales [hKernelIdeal : Cert.KernelIdeal.Facts] [hReferenceIdeal : Cert.ReferenceIdeal.Facts] [hPre_lens_and_q_scales : Cert.Pre_lens_and_q_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_and_q_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_lens_and_q_scales : Cert.Pre_lens_and_q_scales.Facts),
    quiescent_Kernel (hKernel := hKernel)
    ∧ quiescent_KernelIdeal (hKernelIdeal := hKernelIdeal)
    ∧ quiescent_KernelIdeal_pre_lens_and_q_scales (hKernelIdeal := hKernelIdeal) (hPre_lens_and_q_scales := hPre_lens_and_q_scales)
    ∧ quiescent_ReferenceIdeal (hReferenceIdeal := hReferenceIdeal)
    ∧ quiescent_ReferenceIdeal_pre_lens_and_q_scales (hReferenceIdeal := hReferenceIdeal) (hPre_lens_and_q_scales := hPre_lens_and_q_scales)
    ∧ preserves_Kernel_KernelIdeal
    ∧ algebraic_KernelIdeal_ReferenceIdeal_pre_lens_and_q_scales (hKernelIdeal := hKernelIdeal) (hReferenceIdeal := hReferenceIdeal) (hPre_lens_and_q_scales := hPre_lens_and_q_scales)
-- ==== Pre_lens_and_q_scales.lean ====
abbrev S4x512x20x96 : Shape := ⟨4, ![4, 512, 20, 96]⟩
abbrev S4x512x20 : Shape := ⟨3, ![4, 512, 20]⟩
abbrev S256x20x96 : Shape := ⟨3, ![256, 20, 96]⟩
abbrev S256x20 : Shape := ⟨2, ![256, 20]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x512x20 : S_.BroadcastsInDim S4x512x20 (![] : Fin 0 → Fin S4x512x20.rank)
  reducesTo_S4x512x20_S_d0_1_2 : S4x512x20.ReducesTo [0, 1, 2] S_

variable [Facts]

def fn {F : FTy → Type} [FloatOps F] (main_arg0 : FVec F S4x512x20x96 .fp8e4m3) (main_arg1 : FVec F S4x512x20x96 .fp8e4m3) (main_arg2 : FVec F S4x512x20x96 .fp8e4m3) (main_arg3 : FVec F S4x512x20 .f32) (main_arg4 : FVec F S4x512x20 .f32) (main_arg5 : FVec F S4x512x20 .f32) (main_arg6 : FVec F S256x20x96 .fp8e4m3) (main_arg7 : FVec F S256x20x96 .fp8e4m3) (main_arg8 : FVec F S256x20 .f32) (main_arg9 : FVec F S256x20 .f32) (main_arg10 : IVec S4 32) : IVec S_ 1 × IVec S_ 1 :=
  let main_c : IVec S_ 32 := constantI S_ 32 1#32
  let main_v0 : IVec S4 32 := broadcastInDim S4 ![] bcast_S_S4 main_c
  let main_v1 : IVec S4 1 := cmpi .sge main_arg10 main_v0
  let main_c_0 : IVec S_ 32 := constantI S_ 32 512#32
  let main_v2 : IVec S4 32 := broadcastInDim S4 ![] bcast_S_S4 main_c_0
  let main_v3 : IVec S4 1 := cmpi .sle main_arg10 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_cst : FVec F S_ .f32 := constant S_ .f32 0x00000000#32
  let main_v6 : FVec F S4x512x20 .f32 := broadcastInDim S4x512x20 ![] bcast_S_S4x512x20 main_cst
  let main_v7 : IVec S4x512x20 1 := cmpf .oge main_arg3 main_v6
  let main_cst_2 : FVec F S_ .f32 := constant S_ .f32 0x7F800000#32
  let main_v8 : FVec F S4x512x20 .f32 := broadcastInDim S4x512x20 ![] bcast_S_S4x512x20 main_cst_2
  let main_v9 : IVec S4x512x20 1 := cmpf .olt main_arg3 main_v8
  let main_v10 : IVec S4x512x20 1 := andi main_v7 main_v9
  let main_c_3 : IVec S_ 1 := constantI S_ 1 1#1
  let main_v11 : IVec S_ 1 := (fun x v => Host.reduce IntOp.andi x v reducesTo_S4x512x20_S_d0_1_2 h_S_) main_v10 main_c_3
  (main_v5, main_v11)
-- ==== Kernel.lean ====
abbrev S4x512x20x96 : Shape := ⟨4, ![4, 512, 20, 96]⟩
abbrev S4x512x20 : Shape := ⟨3, ![4, 512, 20]⟩
abbrev S256x20x96 : Shape := ⟨3, ![256, 20, 96]⟩
abbrev S256x20 : Shape := ⟨2, ![256, 20]⟩
abbrev S4 : Shape := ⟨1, ![4]⟩
abbrev S4x20x512x96 : Shape := ⟨4, ![4, 20, 512, 96]⟩
abbrev S4x20x96x512 : Shape := ⟨4, ![4, 20, 96, 512]⟩
abbrev S20x256x96 : Shape := ⟨3, ![20, 256, 96]⟩
abbrev S20x256 : Shape := ⟨2, ![20, 256]⟩
abbrev S20x1x256 : Shape := ⟨3, ![20, 1, 256]⟩
abbrev S4x20x512 : Shape := ⟨3, ![4, 20, 512]⟩
abbrev S4x5x4x512 : Shape := ⟨4, ![4, 5, 4, 512]⟩
abbrev S4x512x5x4 : Shape := ⟨4, ![4, 512, 5, 4]⟩
abbrev S4x512x5x8 : Shape := ⟨4, ![4, 512, 5, 8]⟩
abbrev S4x5x512x8 : Shape := ⟨4, ![4, 5, 512, 8]⟩
abbrev S4x512x1920 : Shape := ⟨3, ![4, 512, 1920]⟩
abbrev S1x4x512x96 : Shape := ⟨4, ![1, 4, 512, 96]⟩
abbrev S1x4x96x512 : Shape := ⟨4, ![1, 4, 96, 512]⟩
abbrev S4x256x96 : Shape := ⟨3, ![4, 256, 96]⟩
abbrev S4x1x256 : Shape := ⟨3, ![4, 1, 256]⟩
abbrev S1x1x4x512 : Shape := ⟨4, ![1, 1, 4, 512]⟩
abbrev S1x1x512x8 : Shape := ⟨4, ![1, 1, 512, 8]⟩
abbrev S1x512x384 : Shape := ⟨3, ![1, 512, 384]⟩
abbrev S4x512x512 : Shape := ⟨3, ![4, 512, 512]⟩
abbrev S1 : Shape := ⟨1, ![1]⟩
abbrev S1x1x512x96 : Shape := ⟨4, ![1, 1, 512, 96]⟩
abbrev S512x96 : Shape := ⟨2, ![512, 96]⟩
abbrev S1x1x96x512 : Shape := ⟨4, ![1, 1, 96, 512]⟩
abbrev S96x512 : Shape := ⟨2, ![96, 512]⟩
abbrev S1x256x96 : Shape := ⟨3, ![1, 256, 96]⟩
abbrev S256x96 : Shape := ⟨2, ![256, 96]⟩
abbrev S1x1x256 : Shape := ⟨3, ![1, 1, 256]⟩
abbrev S1x256 : Shape := ⟨2, ![1, 256]⟩
abbrev S1x1x1x512 : Shape := ⟨4, ![1, 1, 1, 512]⟩
abbrev S1x512 : Shape := ⟨2, ![1, 512]⟩
abbrev S1x1x512x1 : Shape := ⟨4, ![1, 1, 512, 1]⟩
abbrev S512x1 : Shape := ⟨2, ![512, 1]⟩
abbrev S128x128 : Shape := ⟨2, ![128, 128]⟩
abbrev S512x256 : Shape := ⟨2, ![512, 256]⟩
abbrev S32x96 : Shape := ⟨2, ![32, 96]⟩
abbrev S32x512 : Shape := ⟨2, ![32, 512]⟩
abbrev S1x1 : Shape := ⟨2, ![1, 1]⟩
abbrev S128x256 : Shape := ⟨2, ![128, 256]⟩
abbrev S128x96 : Shape := ⟨2, ![128, 96]⟩
abbrev S128x1 : Shape := ⟨2, ![128, 1]⟩
abbrev S128x512 : Shape := ⟨2, ![128, 512]⟩
abbrev S1x128 : Shape := ⟨2, ![1, 128]⟩
abbrev S512 : Shape := ⟨1, ![512]⟩
abbrev S1x512x512 : Shape := ⟨3, ![1, 512, 512]⟩
abbrev S512x512 : Shape := ⟨2, ![512, 512]⟩
abbrev S1x128x512 : Shape := ⟨3, ![1, 128, 512]⟩
abbrev S96x128 : Shape := ⟨2, ![96, 128]⟩
abbrev S384x512 : Shape := ⟨2, ![384, 512]⟩
abbrev S512x384 : Shape := ⟨2, ![512, 384]⟩
abbrev S96x256 : Shape := ⟨2, ![96, 256]⟩
abbrev S256x512 : Shape := ⟨2, ![256, 512]⟩
abbrev S96x384 : Shape := ⟨2, ![96, 384]⟩

abbrev nBuf : Space → Nat
  | .hbm => 30
  | .vmem => 21
  | .smem => 1
  | _ => 0

abbrev bufTy : (tb : Table) → Fin (tcTables nBuf tb) → BufTy
  | .hbm, ⟨0, _⟩ => ⟨S4x512x20x96, .fp8e4m3⟩
  | .hbm, ⟨1, _⟩ => ⟨S4x512x20x96, .fp8e4m3⟩
  | .hbm, ⟨2, _⟩ => ⟨S4x512x20x96, .fp8e4m3⟩
  | .hbm, ⟨3, _⟩ => ⟨S4x512x20, .f32⟩
  | .hbm, ⟨4, _⟩ => ⟨S4x512x20, .f32⟩
  | .hbm, ⟨5, _⟩ => ⟨S4x512x20, .f32⟩
  | .hbm, ⟨6, _⟩ => ⟨S256x20x96, .fp8e4m3⟩
  | .hbm, ⟨7, _⟩ => ⟨S256x20x96, .fp8e4m3⟩
  | .hbm, ⟨8, _⟩ => ⟨S256x20, .f32⟩
  | .hbm, ⟨9, _⟩ => ⟨S256x20, .f32⟩
  | .hbm, ⟨10, _⟩ => ⟨S4x20x512x96, .fp8e4m3⟩
  | .hbm, ⟨11, _⟩ => ⟨S4x20x512x96, .fp8e4m3⟩
  | .hbm, ⟨12, _⟩ => ⟨S4x20x96x512, .fp8e4m3⟩
  | .hbm, ⟨13, _⟩ => ⟨S256x20x96, .fp8e4m3⟩
  | .hbm, ⟨14, _⟩ => ⟨S20x256x96, .fp8e4m3⟩
  | .hbm, ⟨15, _⟩ => ⟨S256x20x96, .fp8e4m3⟩
  | .hbm, ⟨16, _⟩ => ⟨S20x256x96, .fp8e4m3⟩
  | .hbm, ⟨17, _⟩ => ⟨S256x20, .f32⟩
  | .hbm, ⟨18, _⟩ => ⟨S20x256, .f32⟩
  | .hbm, ⟨19, _⟩ => ⟨S20x1x256, .f32⟩
  | .hbm, ⟨20, _⟩ => ⟨S256x20, .f32⟩
  | .hbm, ⟨21, _⟩ => ⟨S20x256, .f32⟩
  | .hbm, ⟨22, _⟩ => ⟨S20x1x256, .f32⟩
  | .hbm, ⟨23, _⟩ => ⟨S4x20x512, .f32⟩
  | .hbm, ⟨24, _⟩ => ⟨S4x5x4x512, .f32⟩
  | .hbm, ⟨25, _⟩ => ⟨S4x512x5x4, .f32⟩
  | .hbm, ⟨26, _⟩ => ⟨S4x512x5x4, .f32⟩
  | .hbm, ⟨27, _⟩ => ⟨S4x512x5x8, .f32⟩
  | .hbm, ⟨28, _⟩ => ⟨S4x5x512x8, .f32⟩
  | .hbm, ⟨29, _⟩ => ⟨S4x512x1920, .bf16⟩
  | .local _ .vmem, ⟨0, _⟩ => ⟨S1x4x512x96, .fp8e4m3⟩
  | .local _ .vmem, ⟨1, _⟩ => ⟨S1x4x512x96, .fp8e4m3⟩
  | .local _ .vmem, ⟨2, _⟩ => ⟨S1x4x512x96, .fp8e4m3⟩
  | .local _ .vmem, ⟨3, _⟩ => ⟨S1x4x512x96, .fp8e4m3⟩
  | .local _ .vmem, ⟨4, _⟩ => ⟨S1x4x96x512, .fp8e4m3⟩
  | .local _ .vmem, ⟨5, _⟩ => ⟨S1x4x96x512, .fp8e4m3⟩
  | .local _ .vmem, ⟨6, _⟩ => ⟨S4x256x96, .fp8e4m3⟩
  | .local _ .vmem, ⟨7, _⟩ => ⟨S4x256x96, .fp8e4m3⟩
  | .local _ .vmem, ⟨8, _⟩ => ⟨S4x256x96, .fp8e4m3⟩
  | .local _ .vmem, ⟨9, _⟩ => ⟨S4x256x96, .fp8e4m3⟩
  | .local _ .vmem, ⟨10, _⟩ => ⟨S4x1x256, .f32⟩
  | .local _ .vmem, ⟨11, _⟩ => ⟨S4x1x256, .f32⟩
  | .local _ .vmem, ⟨12, _⟩ => ⟨S4x1x256, .f32⟩
  | .local _ .vmem, ⟨13, _⟩ => ⟨S4x1x256, .f32⟩
  | .local _ .vmem, ⟨14, _⟩ => ⟨S1x1x4x512, .f32⟩
  | .local _ .vmem, ⟨15, _⟩ => ⟨S1x1x4x512, .f32⟩
  | .local _ .vmem, ⟨16, _⟩ => ⟨S1x1x512x8, .f32⟩
  | .local _ .vmem, ⟨17, _⟩ => ⟨S1x1x512x8, .f32⟩
  | .local _ .vmem, ⟨18, _⟩ => ⟨S1x512x384, .bf16⟩
  | .local _ .vmem, ⟨19, _⟩ => ⟨S1x512x384, .bf16⟩
  | .local _ .vmem, ⟨20, _⟩ => ⟨S4x512x512, .bf16⟩
  | .local _ .smem, ⟨0, _⟩ => ⟨S4, .i32⟩
  | _, _ => ⟨S4x512x20x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_arg10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 5], ![false, false]⟩

abbrev pre0 : Pipeline.Prefetch sig := ⟨1, ![main_arg10.idx], fun | 0 => main_arg10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c127_i32 : BitVec 32 := 127#32
  let v2 : BitVec 32 := Scalar.addi v1 c127_i32
  let c7_i32 : BitVec 32 := 7#32
  let v3 : BitVec 32 := Scalar.shrsi v2 c7_i32
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def k0_cond2 (v1 : BitVec 32) : BitVec 1 :=
  let c127_i32 : BitVec 32 := 127#32
  let v2 : BitVec 32 := Scalar.addi v1 c127_i32
  let c7_i32 : BitVec 32 := 7#32
  let v3 : BitVec 32 := Scalar.shrsi v2 c7_i32
  let c2_i32 : BitVec 32 := 2#32
  let v7 : BitVec 1 := Scalar.cmpi .eq v3 c2_i32
  let v8 : BitVec 32 := Scalar.extui v7
  let c0_i32_0 : BitVec 32 := 0#32
  let v9 : BitVec 1 := Scalar.cmpi .ne v8 c0_i32_0
  v9

def k0_cond3 (v1 : BitVec 32) : BitVec 1 :=
  let c127_i32 : BitVec 32 := 127#32
  let v2 : BitVec 32 := Scalar.addi v1 c127_i32
  let c7_i32 : BitVec 32 := 7#32
  let v3 : BitVec 32 := Scalar.shrsi v2 c7_i32
  let c3_i32 : BitVec 32 := 3#32
  let v10 : BitVec 1 := Scalar.cmpi .eq v3 c3_i32
  let v11 : BitVec 32 := Scalar.extui v10
  let c0_i32_1 : BitVec 32 := 0#32
  let v12 : BitVec 1 := Scalar.cmpi .ne v11 c0_i32_1
  v12

def k0_cond4 (v1 : BitVec 32) : BitVec 1 :=
  let c127_i32 : BitVec 32 := 127#32
  let v2 : BitVec 32 := Scalar.addi v1 c127_i32
  let c7_i32 : BitVec 32 := 7#32
  let v3 : BitVec 32 := Scalar.shrsi v2 c7_i32
  let c4_i32 : BitVec 32 := 4#32
  let v13 : BitVec 1 := Scalar.cmpi .eq v3 c4_i32
  let v14 : BitVec 32 := Scalar.extui v13
  let c0_i32_2 : BitVec 32 := 0#32
  let v15 : BitVec 1 := Scalar.cmpi .ne v14 c0_i32_2
  v15

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x512x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x96x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x96 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | "qsc" => some (((Real.log 2)⁻¹ * (Real.sqrt 288)⁻¹ : ℝ) : EReal)
  | _ => none
-- ==== ReferenceIdeal.lean ====
abbrev S4x512x20x96 : Shape := ⟨4, ![4, 512, 20, 96]⟩
abbrev S4x512x20 : Shape := ⟨3, ![4, 512, 20]⟩
abbrev S256x20x96 : Shape := ⟨3, ![256, 20, 96]⟩
abbrev S256x20 : Shape := ⟨2, ![256, 20]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x20x512 : Shape := ⟨3, ![4, 20, 512]⟩
abbrev S4x20x512x1 : Shape := ⟨4, ![4, 20, 512, 1]⟩
abbrev S4x20x1x512 : Shape := ⟨4, ![4, 20, 1, 512]⟩
abbrev S20x256 : Shape := ⟨2, ![20, 256]⟩
abbrev S1x20x1x256 : Shape := ⟨4, ![1, 20, 1, 256]⟩
abbrev S4x20x512x512 : Shape := ⟨4, ![4, 20, 512, 512]⟩
abbrev S20x256x4x512 : Shape := ⟨4, ![20, 256, 4, 512]⟩
abbrev S4x20x512x256 : Shape := ⟨4, ![4, 20, 512, 256]⟩
abbrev S1x1x512x512 : Shape := ⟨4, ![1, 1, 512, 512]⟩
abbrev S512x512x1 : Shape := ⟨3, ![512, 512, 1]⟩
abbrev S4x1 : Shape := ⟨2, ![4, 1]⟩
abbrev S4x512 : Shape := ⟨2, ![4, 512]⟩
abbrev S4x1x1x512 : Shape := ⟨4, ![4, 1, 1, 512]⟩
abbrev S4x20x96x512 : Shape := ⟨4, ![4, 20, 96, 512]⟩
abbrev S4x512x20x1 : Shape := ⟨4, ![4, 512, 20, 1]⟩
abbrev S4x512x1920 : Shape := ⟨3, ![4, 512, 1920]⟩

abbrev nBuf : Space → Nat
  | .hbm => 142
  | .vmem => 10
  | .smem => 0
  | _ => 0

abbrev hbmTy0_0 (i : Nat) : BufTy := match i % 128 with
  | 0 => ⟨S4x512x20x96, .fp8e4m3⟩
  | 1 => ⟨S4x512x20x96, .fp8e4m3⟩
  | 2 => ⟨S4x512x20x96, .fp8e4m3⟩
  | 3 => ⟨S4x512x20, .f32⟩
  | 4 => ⟨S4x512x20, .f32⟩
  | 5 => ⟨S4x512x20, .f32⟩
  | 6 => ⟨S256x20x96, .fp8e4m3⟩
  | 7 => ⟨S256x20x96, .fp8e4m3⟩
  | 8 => ⟨S256x20, .f32⟩
  | 9 => ⟨S256x20, .f32⟩
  | 10 => ⟨S4, .i32⟩
  | 11 => ⟨S_, .f32⟩
  | 12 => ⟨S_, .f32⟩
  | 13 => ⟨S_, .f32⟩
  | 14 => ⟨S_, .f32⟩
  | 15 => ⟨S4x512x20x96, .f32⟩
  | 16 => ⟨S4x512x20x96, .f32⟩
  | 17 => ⟨S4x512x20x96, .bf16⟩
  | 18 => ⟨S256x20x96, .f32⟩
  | 19 => ⟨S256x20x96, .f32⟩
  | 20 => ⟨S512, .i32⟩
  | 21 => ⟨S512x1, .i32⟩
  | 22 => ⟨S1x512, .i32⟩
  | 23 => ⟨S512x512, .i32⟩
  | 24 => ⟨S512x512, .i32⟩
  | 25 => ⟨S512x512, .i32⟩
  | 26 => ⟨S_, .i32⟩
  | 27 => ⟨S512x512, .i32⟩
  | 28 => ⟨S512x512, .i32⟩
  | 29 => ⟨S_, .i32⟩
  | 30 => ⟨S_, .i32⟩
  | 31 => ⟨S_, .i32⟩
  | 32 => ⟨S512x512, .i32⟩
  | 33 => ⟨S512x512, .i32⟩
  | 34 => ⟨S_, .i32⟩
  | 35 => ⟨S512x512, .i32⟩
  | 36 => ⟨S512x512, .i32⟩
  | 37 => ⟨S512x512, .i32⟩
  | 38 => ⟨S_, .i32⟩
  | 39 => ⟨S512x512, .i32⟩
  | 40 => ⟨S512x512, .i32⟩
  | 41 => ⟨S_, .i32⟩
  | 42 => ⟨S_, .i32⟩
  | 43 => ⟨S_, .i32⟩
  | 44 => ⟨S512x512, .i32⟩
  | 45 => ⟨S512x512, .i32⟩
  | 46 => ⟨S_, .i32⟩
  | 47 => ⟨S512x512, .i32⟩
  | 48 => ⟨S512x512, .i32⟩
  | 49 => ⟨S4x20x512, .f32⟩
  | 50 => ⟨S4x20x512x1, .f32⟩
  | 51 => ⟨S4x20x512, .f32⟩
  | 52 => ⟨S4x20x1x512, .f32⟩
  | 53 => ⟨S4x20x512, .f32⟩
  | 54 => ⟨S4x20x512x1, .f32⟩
  | 55 => ⟨S4x20x512, .f32⟩
  | 56 => ⟨S4x20x1x512, .f32⟩
  | 57 => ⟨S20x256, .f32⟩
  | 58 => ⟨S1x20x1x256, .f32⟩
  | 59 => ⟨S20x256, .f32⟩
  | 60 => ⟨S1x20x1x256, .f32⟩
  | 61 => ⟨S4x20x512x512, .f32⟩
  | 62 => ⟨S4x20x512x512, .f32⟩
  | 63 => ⟨S4x20x512x512, .f32⟩
  | 64 => ⟨S4x20x512x512, .f32⟩
  | 65 => ⟨S4x20x512x512, .f32⟩
  | 66 => ⟨S20x256x4x512, .f32⟩
  | 67 => ⟨S4x20x512x256, .f32⟩
  | 68 => ⟨S4x20x512x256, .f32⟩
  | 69 => ⟨S4x20x512x256, .f32⟩
  | 70 => ⟨S4x20x512x256, .f32⟩
  | 71 => ⟨S4x20x512x256, .f32⟩
  | 72 => ⟨S20x256x4x512, .f32⟩
  | 73 => ⟨S4x20x512x256, .f32⟩
  | 74 => ⟨S4x20x512x256, .f32⟩
  | 75 => ⟨S4x20x512x256, .f32⟩
  | 76 => ⟨S4x20x512x256, .f32⟩
  | 77 => ⟨S4x20x512x256, .f32⟩
  | 78 => ⟨S1x1x512x512, .i32⟩
  | 79 => ⟨S_, .i32⟩
  | 80 => ⟨S1x1x512x512, .i32⟩
  | 81 => ⟨S1x1x512x512, .i1⟩
  | 82 => ⟨S_, .i32⟩
  | 83 => ⟨S1x1x512x512, .i32⟩
  | 84 => ⟨S1x1x512x512, .i32⟩
  | 85 => ⟨S1x1x512x512, .i32⟩
  | 86 => ⟨S512x512x1, .i32⟩
  | 87 => ⟨S4x20x512x512, .f32⟩
  | 88 => ⟨S512x512, .i32⟩
  | 89 => ⟨S1x1x512x512, .i32⟩
  | 90 => ⟨S_, .i32⟩
  | 91 => ⟨S1x1x512x512, .i32⟩
  | 92 => ⟨S1x1x512x512, .i1⟩
  | 93 => ⟨S_, .i32⟩
  | 94 => ⟨S1x1x512x512, .i32⟩
  | 95 => ⟨S1x1x512x512, .i32⟩
  | 96 => ⟨S1x1x512x512, .i32⟩
  | 97 => ⟨S512x512x1, .i32⟩
  | 98 => ⟨S4x20x512x512, .f32⟩
  | 99 => ⟨S4x20x512x512, .f32⟩
  | 100 => ⟨S4x20x512x512, .f32⟩
  | 101 => ⟨S4x20x512x512, .f32⟩
  | 102 => ⟨S4x20x512x512, .f32⟩
  | 103 => ⟨S4x20x512x512, .f32⟩
  | 104 => ⟨S1x512, .i32⟩
  | 105 => ⟨S4x1, .i32⟩
  | 106 => ⟨S4x512, .i32⟩
  | 107 => ⟨S4x512, .i32⟩
  | 108 => ⟨S4x512, .i1⟩
  | 109 => ⟨S4x1x1x512, .i1⟩
  | 110 => ⟨S_, .f32⟩
  | 111 => ⟨S_, .f32⟩
  | 112 => ⟨S4x20x512x512, .i1⟩
  | 113 => ⟨S4x20x512x512, .f32⟩
  | 114 => ⟨S4x20x512x512, .f32⟩
  | 115 => ⟨S_, .f32⟩
  | 116 => ⟨S4x20x512, .f32⟩
  | 117 => ⟨S4x20x512x1, .f32⟩
  | 118 => ⟨S4x20x512x512, .f32⟩
  | 119 => ⟨S4x20x512x512, .f32⟩
  | 120 => ⟨S4x20x512x512, .f32⟩
  | 121 => ⟨S_, .f32⟩
  | 122 => ⟨S4x20x512, .f32⟩
  | 123 => ⟨S4x20x512x1, .f32⟩
  | 124 => ⟨S4x20x512x512, .f32⟩
  | 125 => ⟨S4x20x512x512, .f32⟩
  | 126 => ⟨S4x20x512x512, .f32⟩
  | 127 => ⟨S4x20x512x512, .f32⟩
  | _ => ⟨S4x512x20x96, .fp8e4m3⟩

abbrev hbmTy0_1 (i : Nat) : BufTy := match i % 128 with
  | 0 => ⟨S4x20x512x512, .bf16⟩
  | 1 => ⟨S4x20x96x512, .f32⟩
  | 2 => ⟨S4x512x20x96, .f32⟩
  | 3 => ⟨S4x512x20x1, .f32⟩
  | 4 => ⟨S_, .f32⟩
  | 5 => ⟨S4x512x20x1, .f32⟩
  | 6 => ⟨S4x512x20x1, .i1⟩
  | 7 => ⟨S_, .f32⟩
  | 8 => ⟨S_, .f32⟩
  | 9 => ⟨S4x512x20x96, .i1⟩
  | 10 => ⟨S4x512x20x96, .f32⟩
  | 11 => ⟨S4x512x20x96, .f32⟩
  | 12 => ⟨S4x512x1920, .f32⟩
  | 13 => ⟨S4x512x1920, .bf16⟩
  | _ => ⟨S4x512x20x96, .fp8e4m3⟩

abbrev hbmTy (i : Nat) : BufTy := match i / 128 with
  | 0 => hbmTy0_0 i
  | 1 => hbmTy0_1 i
  | _ => ⟨S4x512x20x96, .fp8e4m3⟩

abbrev bufTy : (tb : Table) → Fin (tcTables nBuf tb) → BufTy
  | .hbm, ⟨i, _⟩ => hbmTy i
  | .local _ .vmem, ⟨0, _⟩ => ⟨S4x512x20x96, .fp8e4m3⟩
  | .local _ .vmem, ⟨1, _⟩ => ⟨S4x512x20x96, .fp8e4m3⟩
  | .local _ .vmem, ⟨2, _⟩ => ⟨S4x512x20x96, .fp8e4m3⟩
  | .local _ .vmem, ⟨3, _⟩ => ⟨S256x20x96, .fp8e4m3⟩
  | .local _ .vmem, ⟨4, _⟩ => ⟨S256x20x96, .fp8e4m3⟩
  | .local _ .vmem, ⟨5, _⟩ => ⟨S4x512x20x96, .f32⟩
  | .local _ .vmem, ⟨6, _⟩ => ⟨S4x512x20x96, .f32⟩
  | .local _ .vmem, ⟨7, _⟩ => ⟨S4x512x20x96, .bf16⟩
  | .local _ .vmem, ⟨8, _⟩ => ⟨S256x20x96, .f32⟩
  | .local _ .vmem, ⟨9, _⟩ => ⟨S256x20x96, .f32⟩
  | _, _ => ⟨S4x512x20x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_6 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v61 : Ref sig .tc := ⟨.hbm, 114, rfl⟩
abbrev main_cst_7 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_8 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_9 : Ref sig .tc := ⟨.hbm, 132, rfl⟩
abbrev main_v77 : Ref sig .tc := ⟨.hbm, 133, rfl⟩
abbrev main_v78 : Ref sig .tc := ⟨.hbm, 134, rfl⟩
abbrev main_cst_10 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x20x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x20x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x20x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x20x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x20x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x20x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x20x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x20x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x20x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x20x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.P.Conds.lean ====
/- Which branch of the body of `Kernel` is taken: the one of the number of 128-key chunks, so never two. -/
module

public import proofs.«01_k».proof.Proof.Gen.Kernel.Skeleton
public import Idealize.ShloMosaic.Lib.WordCmp

@[expose] public section

set_option maxRecDepth 16384

noncomputable section

namespace Cert.Kernel.Hand

open Cert.Kernel Cert.Kernel.Gen
open Idealize.ShloMosaic

/-- The number of 128-key chunks that a length word asks for, as the kernel computes it. -/
def chunks (v : BitVec 32) : BitVec 32 := Scalar.shrsi (Scalar.addi v 127#32) 7#32

/-- Branch 1 is the one for 1 chunk. -/
theorem cond1_iff {v : BitVec 32} : k0_cond1 v = 1#1 ↔ chunks v = 1#32 := by
  show (IntOp.cmpi .ne (Scalar.extui (IntOp.cmpi .eq (chunks v) 1#32) : BitVec 32) 0#32) = 1#1 ↔ _
  rw [WordCmp.cmpi_eq_eq]
  by_cases h : chunks v = 1#32
  · simp only [h, decide_true]; decide
  · simp only [h, decide_false]; decide

/-- Branch 2 is the one for 2 chunks. -/
theorem cond2_iff {v : BitVec 32} : k0_cond2 v = 1#1 ↔ chunks v = 2#32 := by
  show (IntOp.cmpi .ne (Scalar.extui (IntOp.cmpi .eq (chunks v) 2#32) : BitVec 32) 0#32) = 1#1 ↔ _
  rw [WordCmp.cmpi_eq_eq]
  by_cases h : chunks v = 2#32
  · simp only [h, decide_true]; decide
  · simp only [h, decide_false]; decide

/-- Branch 3 is the one for 3 chunks. -/
theorem cond3_iff {v : BitVec 32} : k0_cond3 v = 1#1 ↔ chunks v = 3#32 := by
  show (IntOp.cmpi .ne (Scalar.extui (IntOp.cmpi .eq (chunks v) 3#32) : BitVec 32) 0#32) = 1#1 ↔ _
  rw [WordCmp.cmpi_eq_eq]
  by_cases h : chunks v = 3#32
  · simp only [h, decide_true]; decide
  · simp only [h, decide_false]; decide

/-- Branch 4 is the one for 4 chunks. -/
theorem cond4_iff {v : BitVec 32} : k0_cond4 v = 1#1 ↔ chunks v = 4#32 := by
  show (IntOp.cmpi .ne (Scalar.extui (IntOp.cmpi .eq (chunks v) 4#32) : BitVec 32) 0#32) = 1#1 ↔ _
  rw [WordCmp.cmpi_eq_eq]
  by_cases h : chunks v = 4#32
  · simp only [h, decide_true]; decide
  · simp only [h, decide_false]; decide

theorem cond1_ne2 {v : BitVec 32} (h : k0_cond1 v = 1#1) : ¬ k0_cond2 v = 1#1 := fun h' =>
  absurd ((cond1_iff.1 h).symm.trans (cond2_iff.1 h')) (by decide)
theorem cond1_ne3 {v : BitVec 32} (h : k0_cond1 v = 1#1) : ¬ k0_cond3 v = 1#1 := fun h' =>
  absurd ((cond1_iff.1 h).symm.trans (cond3_iff.1 h')) (by decide)
theorem cond1_ne4 {v : BitVec 32} (h : k0_cond1 v = 1#1) : ¬ k0_cond4 v = 1#1 := fun h' =>
  absurd ((cond1_iff.1 h).symm.trans (cond4_iff.1 h')) (by decide)
theorem cond2_ne1 {v : BitVec 32} (h : k0_cond2 v = 1#1) : ¬ k0_cond1 v = 1#1 := fun h' =>
  absurd ((cond2_iff.1 h).symm.trans (cond1_iff.1 h')) (by decide)
theorem cond2_ne3 {v : BitVec 32} (h : k0_cond2 v = 1#1) : ¬ k0_cond3 v = 1#1 := fun h' =>
  absurd ((cond2_iff.1 h).symm.trans (cond3_iff.1 h')) (by decide)
theorem cond2_ne4 {v : BitVec 32} (h : k0_cond2 v = 1#1) : ¬ k0_cond4 v = 1#1 := fun h' =>
  absurd ((cond2_iff.1 h).symm.trans (cond4_iff.1 h')) (by decide)
theorem cond3_ne1 {v : BitVec 32} (h : k0_cond3 v = 1#1) : ¬ k0_cond1 v = 1#1 := fun h' =>
  absurd ((cond3_iff.1 h).symm.trans (cond1_iff.1 h')) (by decide)
theorem cond3_ne2 {v : BitVec 32} (h : k0_cond3 v = 1#1) : ¬ k0_cond2 v = 1#1 := fun h' =>
  absurd ((cond3_iff.1 h).symm.trans (cond2_iff.1 h')) (by decide)
theorem cond3_ne4 {v : BitVec 32} (h : k0_cond3 v = 1#1) : ¬ k0_cond4 v = 1#1 := fun h' =>
  absurd ((cond3_iff.1 h).symm.trans (cond4_iff.1 h')) (by decide)
theorem cond4_ne1 {v : BitVec 32} (h : k0_cond4 v = 1#1) : ¬ k0_cond1 v = 1#1 := fun h' =>
  absurd ((cond4_iff.1 h).symm.trans (cond1_iff.1 h')) (by decide)
theorem cond4_ne2 {v : BitVec 32} (h : k0_cond4 v = 1#1) : ¬ k0_cond2 v = 1#1 := fun h' =>
  absurd ((cond4_iff.1 h).symm.trans (cond2_iff.1 h')) (by decide)
theorem cond4_ne3 {v : BitVec 32} (h : k0_cond4 v = 1#1) : ¬ k0_cond3 v = 1#1 := fun h' =>
  absurd ((cond4_iff.1 h).symm.trans (cond3_iff.1 h')) (by decide)

end Cert.Kernel.Hand

end
-- ==== Proof.P.Points.lean ====
/- When each window of the pipeline of `Kernel` is fetched or written back, and the body as the pipeline calls it. -/
module

public import proofs.«01_k».proof.Proof.Gen.Kernel
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%6)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%9)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 0 (fun _ => rfl) (by decide)) (P := 1) (by decide) t).mpr (Nat.mod_one _) : ∀ t : Fin grid0.N, Pipeline.Window.fetchOf grid0 false cc0_transform_5 t = true)
/-- Window 6 (operand 7 (%12)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 0 (fun _ => rfl) (by decide)) (P := 1) (by decide) t).mpr (Nat.mod_one _) : ∀ t : Fin grid0.N, Pipeline.Window.fetchOf grid0 false cc0_transform_6 t = true)
/-- Window 7 (operand 8 (%14)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 9 (%18)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 1 (by decide) (by decide) (Pipeline.Window.sep_of_coord cc0_transform_8 1 1 (fun _ => rfl) (by decide)) (P := 1) (by decide) t).mpr (Nat.mod_one _) : ∀ t : Fin grid0.N, Pipeline.Window.fetchOf grid0 false cc0_transform_8 t = true)
/-- Window 9 (result 0 (%19)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_disentangled_attention (grid0.coords t) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

end Cert.Kernel.Hand

end
-- ==== Proof.P.Runs.lean ====
/- The memory at the entry of the pipeline of `Kernel`, the blocks of its windows, the conditions of its branches, the
   staging buffers: what the runs of the body are stated over. -/
module

public import proofs.«01_k».proof.Proof.Gen.Kernel.Launch
public import proofs.«01_k».proof.Proof.Gen.Kernel.Skeleton
public import proofs.«01_k».proof.Proof.P.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg10
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The body's branch conditions -/

/-- The condition of the body's `scf.if` 0 (`k0_h1`): over WORDS the body reads from its tables or input SMEM windows
    (`v1`), so no function of the point — a case variable: a hypothesis of each run, a `by_cases`
    of the obligation and an `if` of `outsAt`, stated over the argument blocks' words there. -/
abbrev cond0_0 (i : grid0.Coords) (v1 : BitVec 32) : Prop := k0_cond1 v1 = 1#1

/-- The condition of the body's `scf.if` 1 (`k0_h2`): over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := k0_cond2 v1 = 1#1

/-- The condition of the body's `scf.if` 2 (`k0_h3`): over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := k0_cond3 v1 = 1#1

/-- The condition of the body's `scf.if` 3 (`k0_h4`): over WORDS the body reads from its tables or input SMEM windows
    (`v1`), so no function of the point — a case variable: a hypothesis of each run, a `by_cases`
    of the obligation and an `if` of `outsAt`, stated over the argument blocks' words there. -/
abbrev cond0_3 (i : grid0.Coords) (v1 : BitVec 32) : Prop := k0_cond4 v1 = 1#1

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 (tbl m) 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 (tbl m) 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x512x96 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x512x96 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x96x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x256x96 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x256x96 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x4x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x512x8 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x512x384 .bf16 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S4x512x512 .bf16 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.P.Run0.lean ====
/- The body of `Kernel` run when no branch is taken. -/
module

public import proofs.«01_k».proof.Proof.P.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- The body when no branch is taken: it stores nothing, and hands everything back. -/
theorem run0 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K := by
    intro E K
    simp only [cc0_disentangled_attention_eq_skeleton]; unfold cc0_disentangled_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexact HT0

end Cert.Kernel.Hand

end
-- ==== Proof.P.Run1.lean ====
/- The body of `Kernel` run when the sequence has 1 chunk of 128 keys. -/
module

public import proofs.«01_k».proof.Proof.P.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 1 chunk of keys, as pieces, with the proof that the
    body, on whole staging buffers, runs to a state that holds the inputs as they were and the output block with these
    pieces written over it. The pieces are the witness that the run finds. -/
def run1 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.Kernel.Hand

end
-- ==== Proof.P.Run2.lean ====
/- The body of `Kernel` run when the sequence has 2 chunks of 128 keys. -/
module

public import proofs.«01_k».proof.Proof.P.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 2 chunks of keys, as pieces, with the proof that the
    body, on whole staging buffers, runs to a state that holds the inputs as they were and the output block with these
    pieces written over it. The pieces are the witness that the run finds. -/
def run2 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.Kernel.Hand

end
-- ==== Proof.P.Run3.lean ====
/- The body of `Kernel` run when the sequence has 3 chunks of 128 keys. -/
module

public import proofs.«01_k».proof.Proof.P.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 3 chunks of keys, as pieces, with the proof that the
    body, on whole staging buffers, runs to a state that holds the inputs as they were and the output block with these
    pieces written over it. The pieces are the witness that the run finds. -/
def run3 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.Kernel.Hand

end
-- ==== Proof.P.Run4.lean ====
/- The body of `Kernel` run when the sequence has 4 chunks of 128 keys. -/
module

public import proofs.«01_k».proof.Proof.P.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 4 chunks of keys, as pieces, with the proof that the
    body, on whole staging buffers, runs to a state that holds the inputs as they were and the output block with these
    pieces written over it. The pieces are the witness that the run finds. -/
def run4 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.Kernel.Hand

end
-- ==== Proof.P.Frame.lean ====
/- The frame of `Kernel`: every execution of @main ends, with the arguments unchanged and the semaphores at zero, whatever
   the contents of the table of sequence lengths. The output window is forgotten here. -/
module

public import proofs.«01_k».proof.Proof.P.Conds
public import proofs.«01_k».proof.Proof.P.Run0
public import proofs.«01_k».proof.Proof.P.Run1
public import proofs.«01_k».proof.Proof.P.Run2
public import proofs.«01_k».proof.Proof.P.Run3
public import proofs.«01_k».proof.Proof.P.Run4
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d))

set_option maxHeartbeats 12800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  rw [show (dats m hO 0 c).leavesExact 6 t = owns (c : Thread nD τ) (ms0_6 m hO t) fullShare ((dats m hO 0 c).after 6 t) from by
      unfold Dat.leavesExact; rw [liveAt0_6 m hO t]; try rfl, after0_6]
  rw [show (dats m hO 0 c).leavesExact 7 t = owns (c : Thread nD τ) (ms0_7 m hO t) fullShare ((dats m hO 0 c).after 7 t) from by
      unfold Dat.leavesExact; rw [liveAt0_7 m hO t]; try rfl, after0_7]
  rw [show (dats m hO 0 c).leavesExact 8 t = owns (c : Thread nD τ) (ms0_8 m hO t) fullShare ((dats m hO 0 c).after 8 t) from by
      unfold Dat.leavesExact; rw [liveAt0_8 m hO t]; try rfl, after0_8]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : cond0_0 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run1 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h0 (cond1_ne2 h0) (cond1_ne3 h0) (cond1_ne4 h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h1 : cond0_1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run2 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond2_ne1 h1) h1 (cond2_ne3 h1) (cond2_ne4 h1)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h2 : cond0_2 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run3 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond3_ne1 h2) (cond3_ne2 h2) h2 (cond3_ne4 h2)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h3 : cond0_3 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run4 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond4_ne1 h3) (cond4_ne2 h3) (cond4_ne3 h3) h3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  iapply ((run0 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h0 h1 h2 h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HT0]; · iexact HT0
  iintro ⟨H0, H1, H2, H3, H4, H5, H6, H7, H8, H9, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO)

/-- THE FRAME, at any `F` and for every contents of the table of sequence lengths: every execution of @main ends, the
    arguments are unchanged and every semaphore counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.Kernel.Hand

end
-- ==== Proof.PI.Conds.lean ====
/- Which branch of the body of `KernelIdeal` is taken: the one of the number of 128-key chunks, so never two. -/
module

public import proofs.«01_k».proof.Proof.Gen.KernelIdeal.Skeleton
public import Idealize.ShloMosaic.Lib.WordCmp

@[expose] public section

set_option maxRecDepth 16384

noncomputable section

namespace Cert.KernelIdeal.Hand

open Cert.KernelIdeal Cert.KernelIdeal.Gen
open Idealize.ShloMosaic

/-- The number of 128-key chunks that a length word asks for, as the kernel computes it. -/
def chunks (v : BitVec 32) : BitVec 32 := Scalar.shrsi (Scalar.addi v 127#32) 7#32

/-- Branch 1 is the one for 1 chunk. -/
theorem cond1_iff {v : BitVec 32} : k0_cond1 v = 1#1 ↔ chunks v = 1#32 := by
  show (IntOp.cmpi .ne (Scalar.extui (IntOp.cmpi .eq (chunks v) 1#32) : BitVec 32) 0#32) = 1#1 ↔ _
  rw [WordCmp.cmpi_eq_eq]
  by_cases h : chunks v = 1#32
  · simp only [h, decide_true]; decide
  · simp only [h, decide_false]; decide

/-- Branch 2 is the one for 2 chunks. -/
theorem cond2_iff {v : BitVec 32} : k0_cond2 v = 1#1 ↔ chunks v = 2#32 := by
  show (IntOp.cmpi .ne (Scalar.extui (IntOp.cmpi .eq (chunks v) 2#32) : BitVec 32) 0#32) = 1#1 ↔ _
  rw [WordCmp.cmpi_eq_eq]
  by_cases h : chunks v = 2#32
  · simp only [h, decide_true]; decide
  · simp only [h, decide_false]; decide

/-- Branch 3 is the one for 3 chunks. -/
theorem cond3_iff {v : BitVec 32} : k0_cond3 v = 1#1 ↔ chunks v = 3#32 := by
  show (IntOp.cmpi .ne (Scalar.extui (IntOp.cmpi .eq (chunks v) 3#32) : BitVec 32) 0#32) = 1#1 ↔ _
  rw [WordCmp.cmpi_eq_eq]
  by_cases h : chunks v = 3#32
  · simp only [h, decide_true]; decide
  · simp only [h, decide_false]; decide

/-- Branch 4 is the one for 4 chunks. -/
theorem cond4_iff {v : BitVec 32} : k0_cond4 v = 1#1 ↔ chunks v = 4#32 := by
  show (IntOp.cmpi .ne (Scalar.extui (IntOp.cmpi .eq (chunks v) 4#32) : BitVec 32) 0#32) = 1#1 ↔ _
  rw [WordCmp.cmpi_eq_eq]
  by_cases h : chunks v = 4#32
  · simp only [h, decide_true]; decide
  · simp only [h, decide_false]; decide

theorem cond1_ne2 {v : BitVec 32} (h : k0_cond1 v = 1#1) : ¬ k0_cond2 v = 1#1 := fun h' =>
  absurd ((cond1_iff.1 h).symm.trans (cond2_iff.1 h')) (by decide)
theorem cond1_ne3 {v : BitVec 32} (h : k0_cond1 v = 1#1) : ¬ k0_cond3 v = 1#1 := fun h' =>
  absurd ((cond1_iff.1 h).symm.trans (cond3_iff.1 h')) (by decide)
theorem cond1_ne4 {v : BitVec 32} (h : k0_cond1 v = 1#1) : ¬ k0_cond4 v = 1#1 := fun h' =>
  absurd ((cond1_iff.1 h).symm.trans (cond4_iff.1 h')) (by decide)
theorem cond2_ne1 {v : BitVec 32} (h : k0_cond2 v = 1#1) : ¬ k0_cond1 v = 1#1 := fun h' =>
  absurd ((cond2_iff.1 h).symm.trans (cond1_iff.1 h')) (by decide)
theorem cond2_ne3 {v : BitVec 32} (h : k0_cond2 v = 1#1) : ¬ k0_cond3 v = 1#1 := fun h' =>
  absurd ((cond2_iff.1 h).symm.trans (cond3_iff.1 h')) (by decide)
theorem cond2_ne4 {v : BitVec 32} (h : k0_cond2 v = 1#1) : ¬ k0_cond4 v = 1#1 := fun h' =>
  absurd ((cond2_iff.1 h).symm.trans (cond4_iff.1 h')) (by decide)
theorem cond3_ne1 {v : BitVec 32} (h : k0_cond3 v = 1#1) : ¬ k0_cond1 v = 1#1 := fun h' =>
  absurd ((cond3_iff.1 h).symm.trans (cond1_iff.1 h')) (by decide)
theorem cond3_ne2 {v : BitVec 32} (h : k0_cond3 v = 1#1) : ¬ k0_cond2 v = 1#1 := fun h' =>
  absurd ((cond3_iff.1 h).symm.trans (cond2_iff.1 h')) (by decide)
theorem cond3_ne4 {v : BitVec 32} (h : k0_cond3 v = 1#1) : ¬ k0_cond4 v = 1#1 := fun h' =>
  absurd ((cond3_iff.1 h).symm.trans (cond4_iff.1 h')) (by decide)
theorem cond4_ne1 {v : BitVec 32} (h : k0_cond4 v = 1#1) : ¬ k0_cond1 v = 1#1 := fun h' =>
  absurd ((cond4_iff.1 h).symm.trans (cond1_iff.1 h')) (by decide)
theorem cond4_ne2 {v : BitVec 32} (h : k0_cond4 v = 1#1) : ¬ k0_cond2 v = 1#1 := fun h' =>
  absurd ((cond4_iff.1 h).symm.trans (cond2_iff.1 h')) (by decide)
theorem cond4_ne3 {v : BitVec 32} (h : k0_cond4 v = 1#1) : ¬ k0_cond3 v = 1#1 := fun h' =>
  absurd ((cond4_iff.1 h).symm.trans (cond3_iff.1 h')) (by decide)

end Cert.KernelIdeal.Hand

end
-- ==== Proof.PI.Points.lean ====
/- When each window of the pipeline of `KernelIdeal` is fetched or written back, and the body as the pipeline calls it. -/
module

public import proofs.«01_k».proof.Proof.Gen.KernelIdeal
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 0 (fun _ => rfl) (by decide)) (P := 1) (by decide) t).mpr (Nat.mod_one _) : ∀ t : Fin grid0.N, Pipeline.Window.fetchOf grid0 false cc0_transform_3 t = true)
/-- Window 4 (operand 5 (%6)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (operand 6 (%9)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 0 (fun _ => rfl) (by decide)) (P := 1) (by decide) t).mpr (Nat.mod_one _) : ∀ t : Fin grid0.N, Pipeline.Window.fetchOf grid0 false cc0_transform_5 t = true)
/-- Window 6 (operand 7 (%12)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 0 (fun _ => rfl) (by decide)) (P := 1) (by decide) t).mpr (Nat.mod_one _) : ∀ t : Fin grid0.N, Pipeline.Window.fetchOf grid0 false cc0_transform_6 t = true)
/-- Window 7 (operand 8 (%14)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 9 (%18)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 1 (by decide) (by decide) (Pipeline.Window.sep_of_coord cc0_transform_8 1 1 (fun _ => rfl) (by decide)) (P := 1) (by decide) t).mpr (Nat.mod_one _) : ∀ t : Fin grid0.N, Pipeline.Window.fetchOf grid0 false cc0_transform_8 t = true)
/-- Window 9 (result 0 (%19)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 2 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_disentangled_attention (grid0.coords t) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _)

end Cert.KernelIdeal.Hand

end
-- ==== Proof.PI.Runs.lean ====
/- The memory at the entry of the pipeline of `KernelIdeal`, the blocks of its windows, the conditions of its branches, the
   staging buffers: what the runs of the body are stated over. -/
module

public import proofs.«01_k».proof.Proof.Gen.KernelIdeal.Launch
public import proofs.«01_k».proof.Proof.Gen.KernelIdeal.Skeleton
public import proofs.«01_k».proof.Proof.PI.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg10
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The body's branch conditions -/

/-- The condition of the body's `scf.if` 0 (`k0_h1`): over WORDS the body reads from its tables or input SMEM windows
    (`v1`), so no function of the point — a case variable: a hypothesis of each run, a `by_cases`
    of the obligation and an `if` of `outsAt`, stated over the argument blocks' words there. -/
abbrev cond0_0 (i : grid0.Coords) (v1 : BitVec 32) : Prop := k0_cond1 v1 = 1#1

/-- The condition of the body's `scf.if` 1 (`k0_h2`): over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := k0_cond2 v1 = 1#1

/-- The condition of the body's `scf.if` 2 (`k0_h3`): over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := k0_cond3 v1 = 1#1

/-- The condition of the body's `scf.if` 3 (`k0_h4`): over WORDS the body reads from its tables or input SMEM windows
    (`v1`), so no function of the point — a case variable: a hypothesis of each run, a `by_cases`
    of the obligation and an `if` of `outsAt`, stated over the argument blocks' words there. -/
abbrev cond0_3 (i : grid0.Coords) (v1 : BitVec 32) : Prop := k0_cond4 v1 = 1#1

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 (tbl m) 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 (tbl m) 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x512x96 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x512x96 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x96x512 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x256x96 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x256x96 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S4x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x4x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x512x8 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x512x384 .bf16 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S4x512x512 .bf16 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.PI.Run0.lean ====
/- The body of `KernelIdeal` run when no branch is taken. -/
module

public import proofs.«01_k».proof.Proof.PI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- The body when no branch is taken: it stores nothing, and hands everything back. -/
theorem run0 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K := by
    intro E K
    simp only [cc0_disentangled_attention_eq_skeleton]; unfold cc0_disentangled_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexact HT0

end Cert.KernelIdeal.Hand

end
-- ==== Proof.PI.Run1.lean ====
/- The body of `KernelIdeal` run when the sequence has 1 chunk of 128 keys. -/
module

public import proofs.«01_k».proof.Proof.PI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 1 chunk of keys, as pieces, with the proof that the
    body, on whole staging buffers, runs to a state that holds the inputs as they were and the output block with these
    pieces written over it. The pieces are the witness that the run finds. -/
def run1 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.KernelIdeal.Hand

end
-- ==== Proof.PI.Run2.lean ====
/- The body of `KernelIdeal` run when the sequence has 2 chunks of 128 keys. -/
module

public import proofs.«01_k».proof.Proof.PI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 2 chunks of keys, as pieces, with the proof that the
    body, on whole staging buffers, runs to a state that holds the inputs as they were and the output block with these
    pieces written over it. The pieces are the witness that the run finds. -/
def run2 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.KernelIdeal.Hand

end
-- ==== Proof.PI.Run3.lean ====
/- The body of `KernelIdeal` run when the sequence has 3 chunks of 128 keys. -/
module

public import proofs.«01_k».proof.Proof.PI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 3 chunks of keys, as pieces, with the proof that the
    body, on whole staging buffers, runs to a state that holds the inputs as they were and the output block with these
    pieces written over it. The pieces are the witness that the run finds. -/
def run3 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.KernelIdeal.Hand

end
-- ==== Proof.PI.Run4.lean ====
/- The body of `KernelIdeal` run when the sequence has 4 chunks of 128 keys. -/
module

public import proofs.«01_k».proof.Proof.PI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.squeezeSlice true in
/-- What the body stores into the output block when the sequence has 4 chunks of keys, as pieces, with the proof that the
    body, on whole staging buffers, runs to a state that holds the inputs as they were and the output block with these
    pieces written over it. The pieces are the witness that the run finds. -/
def run4 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : cond0_3 i (tbM0_0.view.readAt (Elt F) (Rect.unit (s := S4) (k0_off1 i) S1.size (k0_off1_inb i)).toLoadRect xt0 (Shape.Idx.first (numel1_S1.symm ▸ Nat.one_pos)))) :
    { L : List (View.Piece (Elt F) S1x512x384 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (∃ d, owns (c : Thread nD τ) arg13 fullShare d) ∗ tbPt0 c tbM0_0 xt0) -∗ K ⟨⟩))
          ⊢ wp frame (wpE (defs₀ (F := F)) Variants.none c none) E (cc0_disentangled_attention i tbM0_0 htbM0_0 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_disentangled_attention_eq_skeleton]; unfold cc0_disentangled_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HS0]
    · iexists _, _; isplitr; swap; · iexact HS0
      ipureintro; rfl
    iexact HT0

end Cert.KernelIdeal.Hand

end
-- ==== Proof.PI.Frame.lean ====
/- The frame of `KernelIdeal`: every execution of @main ends, with the arguments unchanged and the semaphores at zero, whatever
   the contents of the table of sequence lengths. The output window is forgotten here. -/
module

public import proofs.«01_k».proof.Proof.PI.Conds
public import proofs.«01_k».proof.Proof.PI.Run0
public import proofs.«01_k».proof.Proof.PI.Run1
public import proofs.«01_k».proof.Proof.PI.Run2
public import proofs.«01_k».proof.Proof.PI.Run3
public import proofs.«01_k».proof.Proof.PI.Run4
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9): nothing reads what the kernel leaves in them, so nothing
    of it is named (Lib/Pipeline/Dat.lean `Dat.toRForget`). -/
def forgets0 : Fin 10 → Bool := fun w => w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d))

set_option maxHeartbeats 12800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  rw [show (dats m hO 0 c).leavesExact 6 t = owns (c : Thread nD τ) (ms0_6 m hO t) fullShare ((dats m hO 0 c).after 6 t) from by
      unfold Dat.leavesExact; rw [liveAt0_6 m hO t]; try rfl, after0_6]
  rw [show (dats m hO 0 c).leavesExact 7 t = owns (c : Thread nD τ) (ms0_7 m hO t) fullShare ((dats m hO 0 c).after 7 t) from by
      unfold Dat.leavesExact; rw [liveAt0_7 m hO t]; try rfl, after0_7]
  rw [show (dats m hO 0 c).leavesExact 8 t = owns (c : Thread nD τ) (ms0_8 m hO t) fullShare ((dats m hO 0 c).after 8 t) from by
      unfold Dat.leavesExact; rw [liveAt0_8 m hO t]; try rfl, after0_8]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : cond0_0 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run1 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h0 (cond1_ne2 h0) (cond1_ne3 h0) (cond1_ne4 h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h1 : cond0_1 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run2 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond2_ne1 h1) h1 (cond2_ne3 h1) (cond2_ne4 h1)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h2 : cond0_2 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run3 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond3_ne1 h2) (cond3_ne2 h2) h2 (cond3_ne4 h2)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  by_cases h3 : cond0_3 (grid0.coords t) (tbM0_0.view.readAt (Elt F) (Rect.unit (s := S4) (k0_off1 (grid0.coords t)) S1.size (k0_off1_inb (grid0.coords t))).toLoadRect (tbl m 0) (Shape.Idx.first (numel1_S1.symm ▸ Nat.one_pos)))
  · iapply ((run4 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond4_ne1 h3) (cond4_ne2 h3) (cond4_ne3 h3) h3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; unfold owns; iexists _; isplitr; swap; · iexact H9
    ipureintro; rfl
  iapply ((run0 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h0 h1 h2 h3) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HT0]; · iexact HT0
  iintro ⟨H0, H1, H2, H3, H4, H5, H6, H7, H8, H9, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 9) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO)

/-- THE FRAME, at any `F` and for every contents of the table of sequence lengths: every execution of @main ends, the
    arguments are unchanged and every semaphore counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO) ((θ_run defs _ _).mono (fun _ h => h.2) (run_main_quiescent m ρ hO))

end Cert.KernelIdeal.Hand

end
-- ==== Proof.PI.Head.lean ====
/- One head of the kernel as a function of its blocks: the vector operations of the body, in their order, with the tiles of
   the score matrix indexed by their chunk of keys `j` and their chunk of queries `i`. -/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- What the body loads for one head: codes of queries, keys and values (transposed), the two tables in reversed order with
    their scales, the scales of queries, keys and values, and the length of the sequence. -/
structure Tiles (F : FTy → Type) where
  q : FVec F S512x96 .fp8e4m3
  k : FVec F S512x96 .fp8e4m3
  vt : FVec F S96x512 .fp8e4m3
  kr : FVec F S256x96 .fp8e4m3
  qr : FVec F S256x96 .fp8e4m3
  krs : FVec F S1x256 .f32
  qrs : FVec F S1x256 .f32
  qs : FVec F S1x512 .f32
  ks : FVec F S512x1 .f32
  vs : FVec F S512x1 .f32
  slen : BitVec 32

variable (T : Tiles F)

theorem sl_c2pRows (i : Fin 4) : S512x256.Slices ![128 * i.val, 0] S128x256 := by fin_cases i <;> decide
theorem sl_keyRows (i : Fin 4) : S512x96.Slices ![128 * i.val, 0] S128x96 := by fin_cases i <;> decide
theorem sl_col (i : Fin 4) : S512x1.Slices ![128 * i.val, 0] S128x1 := by fin_cases i <;> decide
theorem sl_lanes (i : Fin 4) : S128x512.Slices ![0, 128 * i.val] S128x128 := by fin_cases i <;> decide
theorem sl_row (i : Fin 4) : S1x512.Slices ![0, 128 * i.val] S1x128 := by fin_cases i <;> decide

/-- Row and lane numbers of a tile, and the two strict triangles. -/
def rowI : IVec S128x128 32 := iota .tc S128x128 32 [0] iota_S128x128_d0_w32
def laneI : IVec S128x128 32 := iota .tc S128x128 32 [1] iota_S128x128_d1_w32
def mp : IVec S128x128 1 := cmpi .sgt laneI rowI
def mc : IVec S128x128 1 := cmpi .sgt rowI laneI

/-- Queries times the reversed table of keys, with that table's scales. -/
def c2p : FVec F S512x256 .f32 :=
  mulf (matmul dot_S512x96_S256x96_S512x256_1_1_0_0_n_n none T.q T.kr (constant S512x256 .f32 0x00000000#32))
    (broadcastTo S512x256 T.krs broadcasts_S1x256_S512x256)

def cLo : FVec F S1x512 .f32 :=
  mulf (extractStridedSlice S1x512 ![0, 0]
      (matmul dot_S32x96_S512x96_S32x512_1_1_0_0_n_n none (extractStridedSlice S32x96 ![0, 0] T.kr slices_S256x96_o0_0_S32x96)
        T.q (constant S32x512 .f32 0x00000000#32)) slices_S32x512_o0_0_S1x512)
    (broadcastTo S1x512 (extractStridedSlice S1x1 ![0, 0] T.krs slices_S1x256_o0_0_S1x1) broadcasts_S1x1_S1x512)

def cHi : FVec F S1x512 .f32 :=
  mulf (extractStridedSlice S1x512 ![31, 0]
      (matmul dot_S32x96_S512x96_S32x512_1_1_0_0_n_n none (extractStridedSlice S32x96 ![224, 0] T.kr slices_S256x96_o224_0_S32x96)
        T.q (constant S32x512 .f32 0x00000000#32)) slices_S32x512_o31_0_S1x512)
    (broadcastTo S1x512 (extractStridedSlice S1x1 ![0, 255] T.krs slices_S1x256_o0_255_S1x1) broadcasts_S1x1_S1x512)

/-- A 128 × 128 tile rolled by one lane more in every row. -/
def shear (x : FVec F S128x128 .f32) : FVec F S128x128 .f32 := dynamicRotate 1 1#32 (some (1, 0)) x rotates_S128x128_d1s1a0

def rc0 (i : Fin 4) : FVec F S128x128 .f32 :=
  transpose S128x128 [1, 0] (shear (extractStridedSlice S128x128 ![0, 0]
    (extractStridedSlice S128x256 ![128 * i.val, 0] (c2p T) (sl_c2pRows i)) slices_S128x256_o0_0_S128x128)) transposes_S128x128_p1_0_S128x128

def rc1 (i : Fin 4) : FVec F S128x128 .f32 :=
  transpose S128x128 [1, 0] (shear (extractStridedSlice S128x128 ![0, 128]
    (extractStridedSlice S128x256 ![128 * i.val, 0] (c2p T) (sl_c2pRows i)) slices_S128x256_o0_128_S128x128)) transposes_S128x128_p1_0_S128x128

/-- The term of a query's content and a key's position in tile (j, i). -/
def cTile (j i : Fin 4) : FVec F S128x128 .f32 :=
  bif Nat.blt (j.val + 1) i.val then
    broadcastTo S128x128 (extractStridedSlice S1x128 ![0, 128 * i.val] (cLo T) (sl_row i)) broadcasts_S1x128_S128x128
  else bif Nat.blt (i.val + 1) j.val then
    broadcastTo S128x128 (extractStridedSlice S1x128 ![0, 128 * i.val] (cHi T) (sl_row i)) broadcasts_S1x128_S128x128
  else bif Nat.beq (j.val + 1) i.val then
    select mc (rc0 T i) (broadcastTo S128x128 (shapeCast S1x128
      (extractStridedSlice S1x128 ![0, 128 * i.val] (cLo T) (sl_row i)) shapeCasts_S1x128_S1x128) broadcasts_S1x128_S128x128)
  else bif Nat.beq j.val i.val then select mc (rc1 T i) (rc0 T i)
  else
    select mc (broadcastTo S128x128 (shapeCast S1x128
      (extractStridedSlice S1x128 ![0, 128 * i.val] (cHi T) (sl_row i)) shapeCasts_S1x128_S1x128) broadcasts_S1x128_S128x128) (rc1 T i)

/-- The scales of the queries with the factor of the scores. -/
def qsRow : FVec F S1x512 .f32 := mulf T.qs (broadcast S1x512 (Named.named κ "qsc" 0x3DAE1A93#32))

def keys (j : Fin 4) : FVec F S128x96 .fp8e4m3 := extractStridedSlice S128x96 ![128 * j.val, 0] T.k (sl_keyRows j)
def ksj (j : Fin 4) : FVec F S128x1 .f32 := extractStridedSlice S128x1 ![128 * j.val, 0] T.ks (sl_col j)

def cc (j : Fin 4) : FVec F S128x512 .f32 :=
  matmul dot_S128x96_S512x96_S128x512_1_1_0_0_n_n none (keys T j) T.q (constant S128x512 .f32 0x00000000#32)

/-- Keys times the reversed table of queries, with its scales and the keys' own. -/
def p2c (j : Fin 4) : FVec F S128x256 .f32 :=
  mulf (mulf (matmul dot_S128x96_S256x96_S128x256_1_1_0_0_n_n none (keys T j) T.qr (constant S128x256 .f32 0x00000000#32))
      (broadcastTo S128x256 T.qrs broadcasts_S1x256_S128x256))
    (broadcastTo S128x256 (mulf (ksj T j) (broadcast S128x1 (Named.named κ "qsc" 0x3DAE1A93#32))) broadcasts_S128x1_S128x256)

def rp0 (j : Fin 4) : FVec F S128x128 .f32 := shear (extractStridedSlice S128x128 ![0, 0] (p2c T j) slices_S128x256_o0_0_S128x128)
def rp1 (j : Fin 4) : FVec F S128x128 .f32 := shear (extractStridedSlice S128x128 ![0, 128] (p2c T j) slices_S128x256_o0_128_S128x128)
def pLo (j : Fin 4) : FVec F S128x1 .f32 := extractStridedSlice S128x1 ![0, 0] (p2c T j) slices_S128x256_o0_0_S128x1
def pHi (j : Fin 4) : FVec F S128x1 .f32 := extractStridedSlice S128x1 ![0, 255] (p2c T j) slices_S128x256_o0_255_S128x1

/-- The term of a query's position and a key's content in tile (j, i). -/
def pTile (j i : Fin 4) : FVec F S128x128 .f32 :=
  bif Nat.blt (i.val + 1) j.val then broadcastTo S128x128 (pLo T j) broadcasts_S128x1_S128x128
  else bif Nat.blt (j.val + 1) i.val then broadcastTo S128x128 (pHi T j) broadcasts_S128x1_S128x128
  else bif Nat.beq (i.val + 1) j.val then
    select mp (rp0 T j) (broadcastTo S128x128 (shapeCast S128x1 (pLo T j) shapeCasts_S128x1_S128x1) broadcasts_S128x1_S128x128)
  else bif Nat.beq i.val j.val then select mp (rp1 T j) (rp0 T j)
  else select mp (broadcastTo S128x128 (shapeCast S128x1 (pHi T j) shapeCasts_S128x1_S128x1) broadcasts_S128x1_S128x128) (rp1 T j)

/-- Tile (j, i) of the scores, keys along the rows. -/
def sTile (j i : Fin 4) : FVec F S128x128 .f32 :=
  addf (mulf (addf (mulf (extractStridedSlice S128x128 ![0, 128 * i.val] (cc T j) (sl_lanes i))
        (broadcastTo S128x128 (ksj T j) broadcasts_S128x1_S128x128)) (cTile T j i))
      (broadcastTo S128x128 (extractStridedSlice S1x128 ![0, 128 * i.val] (qsRow T) (sl_row i)) broadcasts_S1x128_S128x128))
    (pTile T j i)

/-- The same with the keys beyond the length of the sequence masked. -/
def sMask (j i : Fin 4) : FVec F S128x128 .f32 :=
  select (cmpi .slt (addi rowI (broadcast S128x128 (BitVec.ofNat 32 (128 * j.val)))) (broadcast S128x128 T.slen))
    (sTile T j i) (broadcast S128x128 (Named.named κ "mask" 0xF149F2CA#32))

/-- The scores of chunk `j` of the keys; the mask is applied in the last chunk only. -/
def sRow (last : Bool) (j : Fin 4) : FVec F S128x512 .f32 :=
  bif last then
    concatenate S128x512 1 [⟨S128x128, sMask T j ⟨0, by decide⟩⟩, ⟨S128x128, sMask T j ⟨1, by decide⟩⟩,
      ⟨S128x128, sMask T j ⟨2, by decide⟩⟩, ⟨S128x128, sMask T j ⟨3, by decide⟩⟩] concatenates_S128x128_S128x128_S128x128_S128x128_S128x512_d1
  else
    concatenate S128x512 1 [⟨S128x128, sTile T j ⟨0, by decide⟩⟩, ⟨S128x128, sTile T j ⟨1, by decide⟩⟩,
      ⟨S128x128, sTile T j ⟨2, by decide⟩⟩, ⟨S128x128, sTile T j ⟨3, by decide⟩⟩] concatenates_S128x128_S128x128_S128x128_S128x128_S128x512_d1

/-- The greatest score of every query in chunk `j`. -/
def mRow (last : Bool) (j : Fin 4) : FVec F S1x512 .f32 :=
  shapeCast S1x512 (multiReduction .maximumf [0] S512 (sRow T last j) 0xFF800000#32 reduces_S128x512_S512 (.inl rfl) rfl) shapeCasts_S512_S1x512

/-- `f 0`, then `op` with `f 1` and so on up to chunk `n`. -/
def chain {α : Type} (op : α → α → α) (f : Fin 4 → α) (n : Fin 4) : α :=
  bif Nat.beq n.val 0 then f ⟨0, by decide⟩
  else bif Nat.beq n.val 1 then op (f ⟨0, by decide⟩) (f ⟨1, by decide⟩)
  else bif Nat.beq n.val 2 then op (op (f ⟨0, by decide⟩) (f ⟨1, by decide⟩)) (f ⟨2, by decide⟩)
  else op (op (op (f ⟨0, by decide⟩) (f ⟨1, by decide⟩)) (f ⟨2, by decide⟩)) (f ⟨3, by decide⟩)

/-- The greatest score of every query, over the chunks up to `n`. -/
def mRun (n : Fin 4) : FVec F S1x512 .f32 := chain maximumf (fun j => mRow T (Nat.beq j.val n.val) j) n

/-- The exponentials of chunk `j`, `n` the last chunk. -/
def eRow (n j : Fin 4) : FVec F S128x512 .f32 :=
  exp2 (subf (sRow T (Nat.beq j.val n.val) j) (broadcastTo S128x512 (mRun T n) broadcasts_S1x512_S128x512))

def denRow (n j : Fin 4) : FVec F S1x512 .f32 :=
  shapeCast S1x512 (multiReduction .add [0] S512 (eRow T n j) 0x00000000#32 reduces_S128x512_S512 (.inl rfl) rfl) shapeCasts_S512_S1x512

def den (n : Fin 4) : FVec F S1x512 .f32 := chain addf (fun j => denRow T n j) n

/-- The weights of chunk `j`, as they are put into the scratch. -/
def wRow (n j : Fin 4) : FVec F S128x512 .bf16 :=
  truncf .bf16 (mulf (eRow T n j)
    (broadcastTo S128x512 (extractStridedSlice S128x1 ![128 * j.val, 0] T.vs (sl_col j)) broadcasts_S128x1_S128x512)) bitsLt_bf16_f32

def wStore (n j : Fin 4) : FVec F S1x128x512 .bf16 :=
  shapeCast S1x128x512 (shapeCast S128x512 (wRow T n j) shapeCasts_S128x512_S128x512) shapeCasts_S128x512_S1x128x512

/-- The head's result from the weights read back, for one chunk to four. -/
def out1 (w : FVec F S128x512 .bf16) : FVec F S96x512 .f32 :=
  divf (matmul dot_S96x128_S128x512_S96x512_1_0_0_1_n_n none
      (extf .bf16 (extractStridedSlice S96x128 ![0, 0] T.vt slices_S96x512_o0_0_S96x128) bitsLt_fp8e4m3_bf16) w
      (constant S96x512 .f32 0x00000000#32)) (broadcastTo S96x512 (den T ⟨0, by decide⟩) broadcasts_S1x512_S96x512)
def out2 (w : FVec F S256x512 .bf16) : FVec F S96x512 .f32 :=
  divf (matmul dot_S96x256_S256x512_S96x512_1_0_0_1_n_n none
      (extf .bf16 (extractStridedSlice S96x256 ![0, 0] T.vt slices_S96x512_o0_0_S96x256) bitsLt_fp8e4m3_bf16) w
      (constant S96x512 .f32 0x00000000#32)) (broadcastTo S96x512 (den T ⟨1, by decide⟩) broadcasts_S1x512_S96x512)
def out3 (w : FVec F S384x512 .bf16) : FVec F S96x512 .f32 :=
  divf (matmul dot_S96x384_S384x512_S96x512_1_0_0_1_n_n none
      (extf .bf16 (extractStridedSlice S96x384 ![0, 0] T.vt slices_S96x512_o0_0_S96x384) bitsLt_fp8e4m3_bf16) w
      (constant S96x512 .f32 0x00000000#32)) (broadcastTo S96x512 (den T ⟨2, by decide⟩) broadcasts_S1x512_S96x512)
def out4 (w : FVec F S512x512 .bf16) : FVec F S96x512 .f32 :=
  divf (matmul dot_S96x512_S512x512_S96x512_1_0_0_1_n_n none (extf .bf16 T.vt bitsLt_fp8e4m3_bf16) w
      (constant S96x512 .f32 0x00000000#32)) (broadcastTo S96x512 (den T ⟨3, by decide⟩) broadcasts_S1x512_S96x512)

end Cert.KernelIdeal.Hand
-- ==== Proof.PI.Pieces.lean ====
/- What the body loads for each of the four heads of a step, and the pieces it puts into the scratch. -/
module

public import proofs.«01_k».proof.Proof.PI.Head
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

theorem in_qk (h : Fin 4) : ∀ a, (![0, h.val, 0, 0] : Fin 4 → ℕ) a + S1x1x512x96.size a ≤ S1x4x512x96.size a := by fin_cases h <;> decide
theorem in_vt (h : Fin 4) : ∀ a, (![0, h.val, 0, 0] : Fin 4 → ℕ) a + S1x1x96x512.size a ≤ S1x4x96x512.size a := by fin_cases h <;> decide
theorem in_tab (h : Fin 4) : ∀ a, (![h.val, 0, 0] : Fin 3 → ℕ) a + S1x256x96.size a ≤ S4x256x96.size a := by fin_cases h <;> decide
theorem in_tabs (h : Fin 4) : ∀ a, (![h.val, 0, 0] : Fin 3 → ℕ) a + S1x1x256.size a ≤ S4x1x256.size a := by fin_cases h <;> decide
theorem in_qs (h : Fin 4) : ∀ a, (![0, 0, h.val, 0] : Fin 4 → ℕ) a + S1x1x1x512.size a ≤ S1x1x4x512.size a := by fin_cases h <;> decide
theorem in_ks (h : Fin 4) : ∀ a, (![0, 0, 0, h.val] : Fin 4 → ℕ) a + S1x1x512x1.size a ≤ S1x1x512x8.size a := by fin_cases h <;> decide
theorem in_vs (h : Fin 4) : ∀ a, (![0, 0, 0, 4 + h.val] : Fin 4 → ℕ) a + S1x1x512x1.size a ≤ S1x1x512x8.size a := by fin_cases h <;> decide
theorem in_w (h j : Fin 4) : ∀ a, (![h.val, 128 * j.val, 0] : Fin 3 → ℕ) a + S1x128x512.size a ≤ S4x512x512.size a := by
  fin_cases h <;> fin_cases j <;> decide

/-- The tiles of head `h` of the step, from the contents of the staging buffers. -/
def tiles (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (w : BitVec 32) (h : Fin 4) : Tiles F where
  q := shapeCast S512x96 (View.readAt (Elt F) arg3.view (Rect.unit (s := S1x4x512x96) ![0, h.val, 0, 0] S1x1x512x96.size (in_qk h)).toLoadRect (harg3.unread x0)) shapeCasts_S1x1x512x96_S512x96
  k := shapeCast S512x96 (View.readAt (Elt F) arg4.view (Rect.unit (s := S1x4x512x96) ![0, h.val, 0, 0] S1x1x512x96.size (in_qk h)).toLoadRect (harg4.unread x1)) shapeCasts_S1x1x512x96_S512x96
  vt := shapeCast S96x512 (View.readAt (Elt F) arg5.view (Rect.unit (s := S1x4x96x512) ![0, h.val, 0, 0] S1x1x96x512.size (in_vt h)).toLoadRect (harg5.unread x2)) shapeCasts_S1x1x96x512_S96x512
  kr := shapeCast S256x96 (View.readAt (Elt F) arg6.view (Rect.unit (s := S4x256x96) ![h.val, 0, 0] S1x256x96.size (in_tab h)).toLoadRect (harg6.unread x3)) shapeCasts_S1x256x96_S256x96
  qr := shapeCast S256x96 (View.readAt (Elt F) arg7.view (Rect.unit (s := S4x256x96) ![h.val, 0, 0] S1x256x96.size (in_tab h)).toLoadRect (harg7.unread x4)) shapeCasts_S1x256x96_S256x96
  krs := shapeCast S1x256 (View.readAt (Elt F) arg8.view (Rect.unit (s := S4x1x256) ![h.val, 0, 0] S1x1x256.size (in_tabs h)).toLoadRect (harg8.unread x5)) shapeCasts_S1x1x256_S1x256
  qrs := shapeCast S1x256 (View.readAt (Elt F) arg9.view (Rect.unit (s := S4x1x256) ![h.val, 0, 0] S1x1x256.size (in_tabs h)).toLoadRect (harg9.unread x6)) shapeCasts_S1x1x256_S1x256
  qs := shapeCast S1x512 (View.readAt (Elt F) arg10.view (Rect.unit (s := S1x1x4x512) ![0, 0, h.val, 0] S1x1x1x512.size (in_qs h)).toLoadRect (harg10.unread x7)) shapeCasts_S1x1x1x512_S1x512
  ks := shapeCast S512x1 (View.readAt (Elt F) arg11.view (Rect.unit (s := S1x1x512x8) ![0, 0, 0, h.val] S1x1x512x1.size (in_ks h)).toLoadRect (harg11.unread x8)) shapeCasts_S1x1x512x1_S512x1
  vs := shapeCast S512x1 (View.readAt (Elt F) arg11.view (Rect.unit (s := S1x1x512x8) ![0, 0, 0, 4 + h.val] S1x1x512x1.size (in_vs h)).toLoadRect (harg11.unread x8)) shapeCasts_S1x1x512x1_S512x1
  slen := w

/-- The weights of chunk `j` of head `h`, where the scratch has them. -/
def piece (T : Fin 4 → Tiles F) (n h j : Fin 4) : View.Piece (Elt F) S4x512x512 .bf16 :=
  ⟨Rect.unit (s := S4x512x512) ![h.val, 128 * j.val, 0] S1x128x512.size (in_w h j), wStore (T h) n j⟩

/-- The block of results from the results of the four heads. -/
def outBlock (o : Fin 4 → FVec F S96x512 .f32) : FVec F S1x512x384 .bf16 :=
  shapeCast S1x512x384 (transpose S512x384 [1, 0] (truncf .bf16 (concatenate S384x512 0
    [⟨S96x512, o ⟨0, by decide⟩⟩, ⟨S96x512, o ⟨1, by decide⟩⟩, ⟨S96x512, o ⟨2, by decide⟩⟩, ⟨S96x512, o ⟨3, by decide⟩⟩]
    concatenates_S96x512_S96x512_S96x512_S96x512_S384x512_d0) bitsLt_bf16_f32) transposes_S384x512_p1_0_S512x384)
    shapeCasts_S512x384_S1x512x384

/-- The pieces of head `h`, the last written first. -/
def headPieces (T : Fin 4 → Tiles F) (n h : Fin 4) (L : List (View.Piece (Elt F) S4x512x512 .bf16)) :
    List (View.Piece (Elt F) S4x512x512 .bf16) :=
  bif Nat.beq n.val 0 then piece T n h ⟨0, by decide⟩ :: L
  else bif Nat.beq n.val 1 then piece T n h ⟨1, by decide⟩ :: piece T n h ⟨0, by decide⟩ :: L
  else bif Nat.beq n.val 2 then piece T n h ⟨2, by decide⟩ :: piece T n h ⟨1, by decide⟩ :: piece T n h ⟨0, by decide⟩ :: L
  else piece T n h ⟨3, by decide⟩ :: piece T n h ⟨2, by decide⟩ :: piece T n h ⟨1, by decide⟩ :: piece T n h ⟨0, by decide⟩ :: L

/-- Everything in the scratch when the weights of head `h` are read back. -/
def pieces (T : Fin 4 → Tiles F) (n h : Fin 4) : List (View.Piece (Elt F) S4x512x512 .bf16) :=
  bif Nat.beq h.val 0 then headPieces T n ⟨0, by decide⟩ []
  else bif Nat.beq h.val 1 then headPieces T n ⟨1, by decide⟩ (headPieces T n ⟨0, by decide⟩ [])
  else bif Nat.beq h.val 2 then headPieces T n ⟨2, by decide⟩ (headPieces T n ⟨1, by decide⟩ (headPieces T n ⟨0, by decide⟩ []))
  else headPieces T n ⟨3, by decide⟩ (headPieces T n ⟨2, by decide⟩ (headPieces T n ⟨1, by decide⟩ (headPieces T n ⟨0, by decide⟩ [])))

theorem in_plane (h : Fin 4) : ∀ a, (![h.val, 0, 0] : Fin 3 → ℕ) a + S1x512x512.size a ≤ S4x512x512.size a := by fin_cases h <;> decide

/-- The weights of head `h` read back, 1 chunk of keys. -/
def box1 (h : Fin 4) : LoadRect S4x512x512 :=
  (Rect.unit (s := S4x512x512) ![h.val, 0, 0] S1x512x512.size (in_plane h)).withinL
    ((Rect.unit (s := S512x512) ![0, 0] S128x512.size inb_S512x512_S128x512_0_0).toLoadRect.consLift ![1, 512, 512] (by decide) (by decide))
    (fun _ => rfl)

theorem numel_box1 (h : Fin 4) :
    (Rect.unit (s := S512x512) ![0, 0] S128x512.size inb_S512x512_S128x512_0_0).toLoadRect.shape.numel = (box1 h).shape.numel := by
  fin_cases h <;> decide

def wRead1 (v : View sig .tc .vmem S4x512x512 .bf16) (T : Fin 4 → Tiles F) (h : Fin 4) : FVec F S128x512 .bf16 :=
  LoadRect.valAlong (lr := (Rect.unit (s := S512x512) ![0, 0] S128x512.size inb_S512x512_S128x512_0_0).toLoadRect)
    (LR := box1 h) (numel_box1 h) (v.readCov (pieces T ⟨0, by decide⟩ h) (box1 h))

/-- The weights of head `h` read back, 2 chunks of keys. -/
def box2 (h : Fin 4) : LoadRect S4x512x512 :=
  (Rect.unit (s := S4x512x512) ![h.val, 0, 0] S1x512x512.size (in_plane h)).withinL
    ((Rect.unit (s := S512x512) ![0, 0] S256x512.size inb_S512x512_S256x512_0_0).toLoadRect.consLift ![1, 512, 512] (by decide) (by decide))
    (fun _ => rfl)

theorem numel_box2 (h : Fin 4) :
    (Rect.unit (s := S512x512) ![0, 0] S256x512.size inb_S512x512_S256x512_0_0).toLoadRect.shape.numel = (box2 h).shape.numel := by
  fin_cases h <;> decide

def wRead2 (v : View sig .tc .vmem S4x512x512 .bf16) (T : Fin 4 → Tiles F) (h : Fin 4) : FVec F S256x512 .bf16 :=
  LoadRect.valAlong (lr := (Rect.unit (s := S512x512) ![0, 0] S256x512.size inb_S512x512_S256x512_0_0).toLoadRect)
    (LR := box2 h) (numel_box2 h) (v.readCov (pieces T ⟨1, by decide⟩ h) (box2 h))

/-- The weights of head `h` read back, 3 chunks of keys. -/
def box3 (h : Fin 4) : LoadRect S4x512x512 :=
  (Rect.unit (s := S4x512x512) ![h.val, 0, 0] S1x512x512.size (in_plane h)).withinL
    ((Rect.unit (s := S512x512) ![0, 0] S384x512.size inb_S512x512_S384x512_0_0).toLoadRect.consLift ![1, 512, 512] (by decide) (by decide))
    (fun _ => rfl)

theorem numel_box3 (h : Fin 4) :
    (Rect.unit (s := S512x512) ![0, 0] S384x512.size inb_S512x512_S384x512_0_0).toLoadRect.shape.numel = (box3 h).shape.numel := by
  fin_cases h <;> decide

def wRead3 (v : View sig .tc .vmem S4x512x512 .bf16) (T : Fin 4 → Tiles F) (h : Fin 4) : FVec F S384x512 .bf16 :=
  LoadRect.valAlong (lr := (Rect.unit (s := S512x512) ![0, 0] S384x512.size inb_S512x512_S384x512_0_0).toLoadRect)
    (LR := box3 h) (numel_box3 h) (v.readCov (pieces T ⟨2, by decide⟩ h) (box3 h))

/-- The weights of head `h` read back, 4 chunks of keys. -/
def box4 (h : Fin 4) : LoadRect S4x512x512 :=
  (Rect.unit (s := S4x512x512) ![h.val, 0, 0] S1x512x512.size (in_plane h)).withinL
    ((Rect.unit (s := S512x512) ![0, 0] S512x512.size inb_S512x512_S512x512_0_0).toLoadRect.consLift ![1, 512, 512] (by decide) (by decide))
    (fun _ => rfl)

theorem numel_box4 (h : Fin 4) :
    (Rect.unit (s := S512x512) ![0, 0] S512x512.size inb_S512x512_S512x512_0_0).toLoadRect.shape.numel = (box4 h).shape.numel := by
  fin_cases h <;> decide

def wRead4 (v : View sig .tc .vmem S4x512x512 .bf16) (T : Fin 4 → Tiles F) (h : Fin 4) : FVec F S512x512 .bf16 :=
  LoadRect.valAlong (lr := (Rect.unit (s := S512x512) ![0, 0] S512x512.size inb_S512x512_S512x512_0_0).toLoadRect)
    (LR := box4 h) (numel_box4 h) (v.readCov (pieces T ⟨3, by decide⟩ h) (box4 h))

end Cert.KernelIdeal.Hand
-- ==== Proof.PI.HeadValue.lean ====
/- The tiles of one head read at an index, over the extended reals: every entry of the score tiles is one formula of the
   key `x` and the query `y`, whichever way the tile was made. -/
module

public import proofs.«01_k».proof.Proof.PI.Head
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (T : Tiles Ideal)

/-- The factor of the scores. -/
def qscI : EReal := (Named.named κ "qsc" 0x3DAE1A93#32 : Ideal .f32)

/-- Content times content: key `x`, query `y`. -/
def ccS (x y : Fin 512) : EReal := ∑ d : Fin 96, T.k (ix2 x d) * T.q (ix2 y d)
/-- Query `y` times row `t` of the reversed table of keys. -/
def cS (y : Fin 512) (t : Fin 256) : EReal := (∑ d : Fin 96, T.q (ix2 y d) * T.kr (ix2 t d)) * T.krs (ix2 0 t)
/-- Key `x` times row `t` of the reversed table of queries. -/
def pS (x : Fin 512) (t : Fin 256) : EReal := (∑ d : Fin 96, T.k (ix2 x d) * T.qr (ix2 t d)) * T.qrs (ix2 0 t)

/-- The row of a reversed table for key `x` and query `y`: their distance, clipped. -/
def cIdx (x y : Fin 512) : Fin 256 := ⟨min (127 + x.val - y.val) 255, by omega⟩

/-- The score of key `x` and query `y`, as the kernel has it. -/
def scoreK (x y : Fin 512) : EReal :=
  (ccS T x y * T.ks (ix2 x 0) + cS T y (cIdx x y)) * (T.qs (ix2 0 y) * qscI) + pS T x (cIdx y x) * (T.ks (ix2 x 0) * qscI)

/-- Row `r` of chunk `j`. -/
def at' (j : Fin 4) (r : Fin 128) : Fin 512 := ⟨128 * j.val + r.val, by omega⟩

theorem c2p_apply (y : Fin 512) (t : Fin 256) : c2p T (ix2 y t) = cS T y t := by
  pointwise [c2p, cS]

theorem cLo_apply (y : Fin 512) : cLo T (ix2 0 y) = cS T y 0 := by
  pointwise [cLo, cS]
  simp only [mul_comm]

theorem cHi_apply (y : Fin 512) : cHi T (ix2 0 y) = cS T y 255 := by
  pointwise [cHi, cS]
  simp only [mul_comm]

/-- The signed comparisons of small numbers. -/
theorem sgt_small (a b : ℕ) (ha : a < 2 ^ 31) (hb : b < 2 ^ 31) :
    IntOp.cmpi .sgt (BitVec.ofNat 32 a) (BitVec.ofNat 32 b) = if b < a then 1#1 else 0#1 := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  by_cases h : b < a
  · rw [if_pos h]; simp only [IntOp.cmpi, BitVec.slt_eq_decide, h1, h2]
    simp [h]
  · rw [if_neg h]; simp only [IntOp.cmpi, BitVec.slt_eq_decide, h1, h2]
    simp [h]

theorem mp_apply (r l : Fin 128) : mp (ix2 r l) = if r.val < l.val then 1#1 else 0#1 := by
  pointwise [mp, rowI, laneI]
  exact sgt_small _ _ (by omega) (by omega)

theorem mc_apply (r l : Fin 128) : mc (ix2 r l) = if l.val < r.val then 1#1 else 0#1 := by
  pointwise [mc, rowI, laneI]
  exact sgt_small _ _ (by omega) (by omega)

theorem qsRow_apply (y : Fin 512) : qsRow T (ix2 0 y) = T.qs (ix2 0 y) * qscI := by
  pointwise [qsRow, qscI]

theorem cc_apply (j : Fin 4) (r : Fin 128) (y : Fin 512) :
    cc T j (ix2 r y) = ccS T (at' j r) y := by
  pointwise [cc, keys, ccS]
  rfl

theorem p2c_apply (j : Fin 4) (r : Fin 128) (t : Fin 256) :
    p2c T j (ix2 r t) = pS T (at' j r) t * (T.ks (ix2 (at' j r) 0) * qscI) := by
  pointwise [p2c, keys, ksj, pS, qscI]
  rfl

/-! ## The rolled tiles -/

theorem rc0_apply (i : Fin 4) (r l : Fin 128) (t : Fin 256) (h : t.val = (r.val + 127 - l.val) % 128) :
    rc0 T i (ix2 r l) = cS T (at' i l) t := by
  unfold rc0 shear
  pointwise []
  rw [c2p_apply]
  congr 1
  apply Fin.ext
  dsimp only
  omega

theorem rc1_apply (i : Fin 4) (r l : Fin 128) (t : Fin 256) (h : t.val = 128 + (r.val + 127 - l.val) % 128) :
    rc1 T i (ix2 r l) = cS T (at' i l) t := by
  unfold rc1 shear
  pointwise []
  rw [c2p_apply]
  congr 1
  apply Fin.ext
  dsimp only
  omega

theorem rp0_apply (j : Fin 4) (r l : Fin 128) (t : Fin 256) (h : t.val = (l.val + 127 - r.val) % 128) :
    rp0 T j (ix2 r l) = pS T (at' j r) t * (T.ks (ix2 (at' j r) 0) * qscI) := by
  unfold rp0 shear
  pointwise []
  rw [p2c_apply]
  congr 2
  apply Fin.ext
  dsimp only
  omega

theorem rp1_apply (j : Fin 4) (r l : Fin 128) (t : Fin 256) (h : t.val = 128 + (l.val + 127 - r.val) % 128) :
    rp1 T j (ix2 r l) = pS T (at' j r) t * (T.ks (ix2 (at' j r) 0) * qscI) := by
  unfold rp1 shear
  pointwise []
  rw [p2c_apply]
  congr 2
  apply Fin.ext
  dsimp only
  omega

theorem pLo_apply (j : Fin 4) (r : Fin 128) :
    pLo T j (ix2 r 0) = pS T (at' j r) 0 * (T.ks (ix2 (at' j r) 0) * qscI) := by
  unfold pLo
  pointwise []
  rw [p2c_apply]

theorem pHi_apply (j : Fin 4) (r : Fin 128) :
    pHi T j (ix2 r 0) = pS T (at' j r) 255 * (T.ks (ix2 (at' j r) 0) * qscI) := by
  unfold pHi
  pointwise []
  rw [p2c_apply]

/-! ## The tiles of the three terms -/

theorem sel_one {α : Type} (p : Prop) [Decidable p] (a b : α) : Scalar.select (if p then 1#1 else 0#1) a b = if p then a else b := by
  by_cases h : p <;> simp [h, Scalar.select]

theorem cTile_apply (j i : Fin 4) (r l : Fin 128) :
    cTile T j i (ix2 r l) = cS T (at' i l) (cIdx (at' j r) (at' i l)) := by
  have hr := r.isLt
  have hl := l.isLt
  unfold cTile
  by_cases h1 : j.val + 1 < i.val
  · rw [show Nat.blt (j.val + 1) i.val = true by simpa [Nat.blt_eq] using h1, cond_true]
    pointwise []
    rw [cLo_apply]
    congr 1
    apply Fin.ext
    simp only [cIdx, at']
    show 0 = _
    omega
  rw [show Nat.blt (j.val + 1) i.val = false by simpa [Nat.blt_eq, ← Bool.not_eq_true] using h1, cond_false]
  by_cases h2 : i.val + 1 < j.val
  · rw [show Nat.blt (i.val + 1) j.val = true by simpa [Nat.blt_eq] using h2, cond_true]
    pointwise []
    rw [cHi_apply]
    congr 1
    apply Fin.ext
    simp only [cIdx, at']
    show 255 = _
    omega
  rw [show Nat.blt (i.val + 1) j.val = false by simpa [Nat.blt_eq, ← Bool.not_eq_true] using h2, cond_false]
  by_cases h3 : j.val + 1 = i.val
  · rw [show Nat.beq (j.val + 1) i.val = true by simpa using h3, cond_true]
    pointwise []
    rw [mc_apply, sel_one, cLo_apply]
    split_ifs with h
    · rw [rc0_apply T i r l (cIdx (at' j r) (at' i l)) (by simp only [cIdx, at']; omega)]
    · congr 1
      apply Fin.ext
      simp only [cIdx, at']
      show 0 = _
      omega
  rw [show Nat.beq (j.val + 1) i.val = false by simpa [← Bool.not_eq_true] using h3, cond_false]
  by_cases h4 : j.val = i.val
  · rw [show Nat.beq j.val i.val = true by simpa using h4, cond_true]
    pointwise []
    rw [mc_apply, sel_one]
    split_ifs with h
    · rw [rc1_apply T i r l (cIdx (at' j r) (at' i l)) (by simp only [cIdx, at']; omega)]
    · rw [rc0_apply T i r l (cIdx (at' j r) (at' i l)) (by simp only [cIdx, at']; omega)]
  rw [show Nat.beq j.val i.val = false by simpa [← Bool.not_eq_true] using h4, cond_false]
  pointwise []
  rw [mc_apply, sel_one, cHi_apply]
  split_ifs with h
  · congr 1
    apply Fin.ext
    simp only [cIdx, at']
    show 255 = _
    omega
  · rw [rc1_apply T i r l (cIdx (at' j r) (at' i l)) (by simp only [cIdx, at']; omega)]

theorem pTile_apply (j i : Fin 4) (r l : Fin 128) :
    pTile T j i (ix2 r l) = pS T (at' j r) (cIdx (at' i l) (at' j r)) * (T.ks (ix2 (at' j r) 0) * qscI) := by
  have hr := r.isLt
  have hl := l.isLt
  unfold pTile
  by_cases h1 : i.val + 1 < j.val
  · rw [show Nat.blt (i.val + 1) j.val = true by simpa [Nat.blt_eq] using h1, cond_true]
    pointwise []
    rw [pLo_apply]
    congr 2
    apply Fin.ext
    simp only [cIdx, at']
    show 0 = _
    omega
  rw [show Nat.blt (i.val + 1) j.val = false by simpa [Nat.blt_eq, ← Bool.not_eq_true] using h1, cond_false]
  by_cases h2 : j.val + 1 < i.val
  · rw [show Nat.blt (j.val + 1) i.val = true by simpa [Nat.blt_eq] using h2, cond_true]
    pointwise []
    rw [pHi_apply]
    congr 2
    apply Fin.ext
    simp only [cIdx, at']
    show 255 = _
    omega
  rw [show Nat.blt (j.val + 1) i.val = false by simpa [Nat.blt_eq, ← Bool.not_eq_true] using h2, cond_false]
  by_cases h3 : i.val + 1 = j.val
  · rw [show Nat.beq (i.val + 1) j.val = true by simpa using h3, cond_true]
    pointwise []
    rw [mp_apply, sel_one, pLo_apply]
    split_ifs with h
    · rw [rp0_apply T j r l (cIdx (at' i l) (at' j r)) (by simp only [cIdx, at']; omega)]
    · congr 2
      apply Fin.ext
      simp only [cIdx, at']
      show 0 = _
      omega
  rw [show Nat.beq (i.val + 1) j.val = false by simpa [← Bool.not_eq_true] using h3, cond_false]
  by_cases h4 : i.val = j.val
  · rw [show Nat.beq i.val j.val = true by simpa using h4, cond_true]
    pointwise []
    rw [mp_apply, sel_one]
    split_ifs with h
    · rw [rp1_apply T j r l (cIdx (at' i l) (at' j r)) (by simp only [cIdx, at']; omega)]
    · rw [rp0_apply T j r l (cIdx (at' i l) (at' j r)) (by simp only [cIdx, at']; omega)]
  rw [show Nat.beq i.val j.val = false by simpa [← Bool.not_eq_true] using h4, cond_false]
  pointwise []
  rw [mp_apply, sel_one, pHi_apply]
  split_ifs with h
  · congr 2
    apply Fin.ext
    simp only [cIdx, at']
    show 255 = _
    omega
  · rw [rp1_apply T j r l (cIdx (at' i l) (at' j r)) (by simp only [cIdx, at']; omega)]

theorem ksj_apply (j : Fin 4) (r : Fin 128) : ksj T j (ix2 r 0) = T.ks (ix2 (at' j r) 0) := by
  pointwise [ksj]
  rfl

theorem sTile_apply (j i : Fin 4) (r l : Fin 128) :
    sTile T j i (ix2 r l) = scoreK T (at' j r) (at' i l) := by
  unfold sTile scoreK
  pointwise []
  rw [cTile_apply, pTile_apply, ksj_apply, qsRow_apply, cc_apply]
  rfl

/-- The masked scores: `⊥` beyond the length. -/
def scoreM (x y : Fin 512) : EReal := if x.val < T.slen.toNat then scoreK T x y else ⊥

end Cert.KernelIdeal.Hand
-- ==== Proof.PI.HeadSum.lean ====
/- The softmax of one head over the extended reals: the greatest score, the exponentials, their sum and the weighted values,
   each over all 512 keys, whatever the number of chunks the kernel visits: a key beyond the length counts nothing. -/
module

public import proofs.«01_k».proof.Proof.PI.HeadValue

@[expose] public section

set_option maxRecDepth 16384

noncomputable section

namespace Cert.KernelIdeal.Hand

open Cert.KernelIdeal Cert.KernelIdeal.Gen
open Idealize.ShloMosaic Idealize.ShloMosaic.TcCoe

variable (T : Tiles Ideal)

/-! ## Sums and maxima over the keys, chunk by chunk -/

theorem at'_equiv (p : Fin 4 × Fin 128) : (finProdFinEquiv p : Fin (4 * 128)) = at' p.1 p.2 := by
  apply Fin.ext; simp [at', finProdFinEquiv]; omega

theorem sum_keys (f : Fin 512 → EReal) : ∑ x, f x = ∑ j : Fin 4, ∑ r : Fin 128, f (at' j r) := by
  rw [← Fintype.sum_prod_type' (f := fun j r => f (at' j r))]
  exact (Fintype.sum_equiv (finProdFinEquiv (m := 4) (n := 128)) (fun p : Fin 4 × Fin 128 => f (at' p.1 p.2)) f
    fun p => by rw [← at'_equiv]).symm

theorem iSup_keys (f : Fin 512 → EReal) : ⨆ x, f x = ⨆ j : Fin 4, ⨆ r : Fin 128, f (at' j r) := by
  rw [← iSup_prod (f := fun p : Fin 4 × Fin 128 => f (at' p.1 p.2))]
  exact ((finProdFinEquiv (m := 4) (n := 128)).iSup_congr (f := fun p : Fin 4 × Fin 128 => f (at' p.1 p.2)) (g := f)
    fun p => by rw [← at'_equiv]).symm

theorem iSup_four (g : Fin 4 → EReal) : ⨆ j, g j = max (max (max (g 0) (g 1)) (g 2)) (g 3) :=
  le_antisymm (iSup_le fun j => by fin_cases j <;> simp)
    (max_le (max_le (max_le (le_iSup g 0) (le_iSup g 1)) (le_iSup g 2)) (le_iSup g 3))

theorem sum_prefix {N K M : ℕ} (h : K + M = N) (f : Fin N → EReal) (hz : ∀ x : Fin N, K ≤ x.val → f x = 0) :
    ∑ x, f x = ∑ x : Fin K, f ⟨x.val, by omega⟩ := by
  subst h
  rw [Fin.sum_univ_add, Finset.sum_eq_zero (s := Finset.univ) (f := fun i : Fin M => f (Fin.natAdd K i)), add_zero]
  · rfl
  · intro x _; exact hz _ (by simp)

/-! ## The head's values -/

/-- The greatest score of query `y`. -/
def maxK (y : Fin 512) : EReal := ⨆ x, scoreM T x y
/-- The exponential of key `x` for query `y`. -/
def eK (x y : Fin 512) : EReal := Ideal.exp2 (scoreM T x y - maxK T y)
/-- The weighted values of query `y`, coordinate `d`. -/
def outK (d : Fin 96) (y : Fin 512) : EReal :=
  Ideal.div (∑ x : Fin 512, T.vt (ix2 d x) * (eK T x y * T.vs (ix2 x 0))) (∑ x, eK T x y)

/-- The length lies in chunk `n`. -/
def LastChunk (n : Fin 4) : Prop := 128 * n.val < T.slen.toNat ∧ T.slen.toNat ≤ 128 * (n.val + 1)

theorem chain_congr {α : Type} (op : α → α → α) (f g : Fin 4 → α) (n : Fin 4) (h : ∀ j ≤ n, f j = g j) :
    chain op f n = chain op g n := by
  fin_cases n
  · show f _ = g _
    exact h ⟨0, by decide⟩ (by decide)
  · show op (f _) (f _) = op (g _) (g _)
    rw [h ⟨0, by decide⟩ (by decide), h ⟨1, by decide⟩ (by decide)]
  · show op (op (f _) (f _)) (f _) = op (op (g _) (g _)) (g _)
    rw [h ⟨0, by decide⟩ (by decide), h ⟨1, by decide⟩ (by decide), h ⟨2, by decide⟩ (by decide)]
  · show op (op (op (f _) (f _)) (f _)) (f _) = op (op (op (g _) (g _)) (g _)) (g _)
    rw [h ⟨0, by decide⟩ (by decide), h ⟨1, by decide⟩ (by decide), h ⟨2, by decide⟩ (by decide), h ⟨3, by decide⟩ (by decide)]

theorem chain_max (g : Fin 4 → EReal) (n : Fin 4) (h : ∀ j, n < j → g j = ⊥) : chain max g n = ⨆ j, g j := by
  rw [iSup_four]
  fin_cases n
  · show g 0 = _
    rw [h 1 (by decide), h 2 (by decide), h 3 (by decide)]; simp
  · show max (g 0) (g 1) = _
    rw [h 2 (by decide), h 3 (by decide)]; simp
  · show max (max (g 0) (g 1)) (g 2) = _
    rw [h 3 (by decide)]; simp
  · rfl

theorem chain_add (g : Fin 4 → EReal) (n : Fin 4) (h : ∀ j, n < j → g j = 0) : chain (· + ·) g n = ∑ j, g j := by
  rw [Fin.sum_univ_four]
  fin_cases n
  · show g 0 = _
    rw [h 1 (by decide), h 2 (by decide), h 3 (by decide)]; simp
  · show g 0 + g 1 = _
    rw [h 2 (by decide), h 3 (by decide)]; simp
  · show g 0 + g 1 + g 2 = _
    rw [h 3 (by decide)]; simp
  · rfl

theorem slt_small (a : ℕ) (w : BitVec 32) (ha : a < 2 ^ 31) (hw : w.toNat < 2 ^ 31) :
    IntOp.cmpi .slt (BitVec.ofNat 32 a) w = if a < w.toNat then 1#1 else 0#1 := by
  have h1 : (BitVec.ofNat 32 a).toInt = a := by
    rw [BitVec.toInt_eq_toNat_of_lt (by rw [BitVec.toNat_ofNat]; omega), BitVec.toNat_ofNat]; omega
  have h2 : w.toInt = w.toNat := BitVec.toInt_eq_toNat_of_lt (by omega)
  by_cases h : a < w.toNat
  · rw [if_pos h]; simp only [IntOp.cmpi, BitVec.slt_eq_decide, h1, h2]
    simp [h]
  · rw [if_neg h]; simp only [IntOp.cmpi, BitVec.slt_eq_decide, h1, h2]
    simp [h]

theorem mask_bot : (Named.named κ "mask" 0xF149F2CA#32 : Ideal .f32) = (⊥ : EReal) := rfl

theorem ninf_bot : (Ideal.ofBits .f32 0xFF800000#32 : EReal) = ⊥ := by
  simp [Ideal.ofBits, Ideal.ieee]

theorem fold_max (f : Fin 128 → EReal) : Finset.fold max (⊥ : EReal) f Finset.univ = ⨆ r, f r :=
  Finset.sup_univ_eq_iSup f

/-- Column `y` of a row of four tiles. -/
theorem tiles_apply (p : Fin 4 → FVec Ideal S128x128 .f32) (g : Fin 512 → EReal) (r : Fin 128) (y : Fin 512)
    (h : ∀ i l, p i (ix2 r l) = g (at' i l)) :
    concatenate S128x512 1 [⟨S128x128, p ⟨0, by decide⟩⟩, ⟨S128x128, p ⟨1, by decide⟩⟩,
      ⟨S128x128, p ⟨2, by decide⟩⟩, ⟨S128x128, p ⟨3, by decide⟩⟩]
      concatenates_S128x128_S128x128_S128x128_S128x128_S128x512_d1 (ix2 r y) = g y := by
  have hy := y.isLt
  pointwise []
  split_ifs
  all_goals (rw [h]; congr 1; apply Fin.ext; simp only [at']; omega)

variable {T} {n : Fin 4} (hn : LastChunk T n)
include hn

theorem sMask_apply (j i : Fin 4) (r l : Fin 128) : sMask T j i (ix2 r l) = scoreM T (at' j r) (at' i l) := by
  obtain ⟨h1, h2⟩ := hn
  have hj := j.isLt; have hr := r.isLt; have hn4 := n.isLt
  unfold sMask scoreM rowI
  pointwise []
  rw [sTile_apply, mask_bot, show IntOp.addi (BitVec.ofNat 32 r.val) (BitVec.ofNat 32 (128 * j.val))
    = BitVec.ofNat 32 (r.val + 128 * j.val) from (BitVec.ofNat_add ..).symm, slt_small _ _ (by omega) (by omega), sel_one]
  simp only [at', add_comm]

theorem sRow_apply (j : Fin 4) (hj : j ≤ n) (r : Fin 128) (y : Fin 512) :
    sRow T (Nat.beq j.val n.val) j (ix2 r y) = scoreM T (at' j r) y := by
  unfold sRow
  by_cases h : j = n
  · subst h
    rw [Nat.beq_refl, cond_true]
    exact tiles_apply (fun i => sMask T j i) _ r y fun i l => sMask_apply hn j i r l
  · rw [show Nat.beq j.val n.val = false by simpa [← Bool.not_eq_true] using fun e => h (Fin.ext e), cond_false]
    refine tiles_apply (fun i => sTile T j i) _ r y fun i l => ?_
    rw [sTile_apply]; unfold scoreM; rw [if_pos]
    have h1 := hn.1
    have h2 : j.val < n.val := lt_of_le_of_ne hj fun e => h (Fin.ext e)
    simp only [at']; omega

theorem scoreM_beyond (x y : Fin 512) (h : 128 * (n.val + 1) ≤ x.val) : scoreM T x y = ⊥ := by
  unfold scoreM; rw [if_neg]; have := hn.2; omega

theorem eK_beyond (x y : Fin 512) (h : 128 * (n.val + 1) ≤ x.val) : eK T x y = 0 := by
  unfold eK; rw [scoreM_beyond hn x y h, EReal.bot_sub]; rfl

theorem mRow_apply (j : Fin 4) (hj : j ≤ n) (y : Fin 512) :
    mRow T (Nat.beq j.val n.val) j (ix2 0 y) = ⨆ r, scoreM T (at' j r) y := by
  unfold mRow
  pointwise []
  rw [show (fun x => sRow T (Nat.beq j.val n.val) j (ix2 x y)) = fun x => scoreM T (at' j x) y from
    funext fun x => sRow_apply hn j hj x y, ninf_bot]
  exact fold_max _

theorem mRun_apply (y : Fin 512) : mRun T n (ix2 0 y) = maxK T y := by
  have e : mRun T n (ix2 0 y) = chain max (fun j => mRow T (Nat.beq j.val n.val) j (ix2 0 y)) n := by
    fin_cases n <;> rfl
  rw [e, chain_congr _ _ (fun j => ⨆ r, scoreM T (at' j r) y) n fun j hj => mRow_apply hn j hj y, chain_max]
  · exact (iSup_keys fun x => scoreM T x y).symm
  · intro j hj
    exact le_bot_iff.mp (iSup_le fun r => (scoreM_beyond hn _ _ (by
      have : n.val < j.val := hj
      simp only [at']; omega)).le)

theorem eRow_apply (j : Fin 4) (hj : j ≤ n) (r : Fin 128) (y : Fin 512) : eRow T n j (ix2 r y) = eK T (at' j r) y := by
  unfold eRow
  pointwise []
  rw [sRow_apply hn j hj, mRun_apply hn]
  rfl

theorem den_apply (y : Fin 512) : den T n (ix2 0 y) = ∑ x, eK T x y := by
  have e : den T n (ix2 0 y) = chain (· + ·) (fun j => denRow T n j (ix2 0 y)) n := by
    fin_cases n <;> rfl
  have e2 : ∀ j ≤ n, denRow T n j (ix2 0 y) = ∑ r, eK T (at' j r) y := fun j hj => by
    unfold denRow
    pointwise []
    exact Finset.sum_congr rfl fun r _ => eRow_apply hn j hj r y
  rw [e, chain_congr _ _ _ n e2, chain_add]
  · exact (sum_keys fun x => eK T x y).symm
  · intro j hj
    exact Finset.sum_eq_zero fun r _ => eK_beyond hn _ _ (by
      have : n.val < j.val := hj
      simp only [at']; omega)

theorem wRow_apply (j : Fin 4) (hj : j ≤ n) (r : Fin 128) (y : Fin 512) :
    wRow T n j (ix2 r y) = eK T (at' j r) y * T.vs (ix2 (at' j r) 0) := by
  unfold wRow
  pointwise []
  rw [eRow_apply hn j hj]
  rfl

theorem wStore_apply (j : Fin 4) (hj : j ≤ n) (r : Fin 128) (y : Fin 512) :
    wStore T n j (ix3 0 r y) = eK T (at' j r) y * T.vs (ix2 (at' j r) 0) := by
  unfold wStore
  pointwise []
  exact wRow_apply hn j hj r y

omit hn

theorem out1_apply (hn : LastChunk T ⟨0, by decide⟩) (w : FVec Ideal S128x512 .bf16)
    (hw : ∀ (x : Fin 128) (y : Fin 512), w (ix2 x y) = eK T ⟨x.val, by omega⟩ y * T.vs (ix2 ⟨x.val, by omega⟩ 0))
    (d : Fin 96) (y : Fin 512) : out1 T w (ix2 d y) = outK T d y := by
  unfold out1 outK
  pointwise []
  refine (congrArg₂ Ideal.div ?_ (den_apply hn y))
  rw [sum_prefix (K := 128) (M := 384) rfl _ fun x hx => by rw [eK_beyond hn x y (by simpa using hx)]; simp]
  simp only [hw]

theorem out2_apply (hn : LastChunk T ⟨1, by decide⟩) (w : FVec Ideal S256x512 .bf16)
    (hw : ∀ (x : Fin 256) (y : Fin 512), w (ix2 x y) = eK T ⟨x.val, by omega⟩ y * T.vs (ix2 ⟨x.val, by omega⟩ 0))
    (d : Fin 96) (y : Fin 512) : out2 T w (ix2 d y) = outK T d y := by
  unfold out2 outK
  pointwise []
  refine (congrArg₂ Ideal.div ?_ (den_apply hn y))
  rw [sum_prefix (K := 256) (M := 256) rfl _ fun x hx => by rw [eK_beyond hn x y (by simpa using hx)]; simp]
  simp only [hw]

theorem out3_apply (hn : LastChunk T ⟨2, by decide⟩) (w : FVec Ideal S384x512 .bf16)
    (hw : ∀ (x : Fin 384) (y : Fin 512), w (ix2 x y) = eK T ⟨x.val, by omega⟩ y * T.vs (ix2 ⟨x.val, by omega⟩ 0))
    (d : Fin 96) (y : Fin 512) : out3 T w (ix2 d y) = outK T d y := by
  unfold out3 outK
  pointwise []
  refine (congrArg₂ Ideal.div ?_ (den_apply hn y))
  rw [sum_prefix (K := 384) (M := 128) rfl _ fun x hx => by rw [eK_beyond hn x y (by simpa using hx)]; simp]
  simp only [hw]

theorem out4_apply (hn : LastChunk T ⟨3, by decide⟩) (w : FVec Ideal S512x512 .bf16)
    (hw : ∀ (x : Fin 512) (y : Fin 512), w (ix2 x y) = eK T x y * T.vs (ix2 x 0))
    (d : Fin 96) (y : Fin 512) : out4 T w (ix2 d y) = outK T d y := by
  unfold out4 outK
  pointwise []
  refine (congrArg₂ Ideal.div ?_ (den_apply hn y))
  simp only [hw]

end Cert.KernelIdeal.Hand
-- ==== Proof.PI.Block.lean ====
/- The weights of one head read back from the scratch, and the block of results the body stores: every head's weighted values,
   as functions of the contents of the staging buffers. -/
module

public import proofs.«01_k».proof.Proof.PI.Pieces
public import proofs.«01_k».proof.Proof.PI.HeadSum
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-! ## The weights read back -/

section Scratch
variable (T : Fin 4 → Tiles Ideal) (n : Fin 4)

/-- What the scratch has at an index its pieces reach. -/
def planeV (Y : S4x512x512.Idx) : EReal := eK (T (Y 0)) (Y 1) (Y 2) * (T (Y 0)).vs (ix2 (Y 1) 0)

variable {T n} (hn : ∀ h, LastChunk (T h) n)
include hn

theorem piece_apply (h j : Fin 4) (hj : j ≤ n) (x : (piece T n h j).1.shape.Idx) :
    (piece T n h j).2 x = planeV T ((piece T n h j).1.emb x) := by
  have h0 : @Eq (Fin 1) (x 0) 0 := Subsingleton.elim (α := Fin 1) _ _
  have hx : x = (ix3 (0 : Fin 1) (x 1) (x 2) : S1x128x512.Idx) :=
    (eq_ix3 (n0 := 1) (n1 := 128) (n2 := 512) x).trans
      (congrArg (fun t : Fin 1 => (ix3 t (x 1) (x 2) : (⟨3, ![1, 128, 512]⟩ : Shape).Idx)) h0)
  generalize hr : (x 1 : Fin 128) = r at hx
  generalize hy : (x 2 : Fin 512) = y at hx
  subst hx
  refine (wStore_apply (hn h) j hj r y).trans ?_
  have e : (piece T n h j).1.emb (ix3 (0 : Fin 1) r y) = (ix3 h (at' j r) y : S4x512x512.Idx) := funext fun a => Fin.ext (by
    fin_cases a
    · show h.val + 1 * 0 = h.val; omega
    · show 128 * j.val + 1 * r.val = (at' j r).val; simp only [at']; omega
    · show 0 + 1 * y.val = y.val; omega)
  exact (congrArg (planeV T) e).symm

omit hn

theorem mem_headPieces {h : Fin 4} {L : List (View.Piece (Elt Ideal) S4x512x512 .bf16)} {q : View.Piece (Elt Ideal) S4x512x512 .bf16}
    (hq : q ∈ headPieces T n h L) : (∃ j ≤ n, q = piece T n h j) ∨ q ∈ L := by
  fin_cases n <;> simp only [headPieces, Nat.beq, cond_true, cond_false, List.mem_cons] at hq
  · rcases hq with rfl | hq
    · exact .inl ⟨0, by decide, rfl⟩
    · exact .inr hq
  · rcases hq with rfl | rfl | hq
    · exact .inl ⟨1, by decide, rfl⟩
    · exact .inl ⟨0, by decide, rfl⟩
    · exact .inr hq
  · rcases hq with rfl | rfl | rfl | hq
    · exact .inl ⟨2, by decide, rfl⟩
    · exact .inl ⟨1, by decide, rfl⟩
    · exact .inl ⟨0, by decide, rfl⟩
    · exact .inr hq
  · rcases hq with rfl | rfl | rfl | rfl | hq
    · exact .inl ⟨3, by decide, rfl⟩
    · exact .inl ⟨2, by decide, rfl⟩
    · exact .inl ⟨1, by decide, rfl⟩
    · exact .inl ⟨0, by decide, rfl⟩
    · exact .inr hq

theorem piece_mem_head (h j : Fin 4) (hj : j ≤ n) (L : List (View.Piece (Elt Ideal) S4x512x512 .bf16)) :
    piece T n h j ∈ headPieces T n h L := by
  fin_cases n <;> fin_cases j <;> first
    | exact absurd hj (by decide)
    | simp [headPieces, Nat.beq]

theorem mem_pieces {h : Fin 4} {q : View.Piece (Elt Ideal) S4x512x512 .bf16} (hq : q ∈ pieces T n h) :
    ∃ h' j, j ≤ n ∧ q = piece T n h' j := by
  have k : ∀ {h' : Fin 4} {L : List (View.Piece (Elt Ideal) S4x512x512 .bf16)}, q ∈ headPieces T n h' L →
      (q ∈ L → ∃ h' j, j ≤ n ∧ q = piece T n h' j) → ∃ h' j, j ≤ n ∧ q = piece T n h' j := fun hq hL => by
    rcases mem_headPieces hq with ⟨j, hj, e⟩ | hq
    · exact ⟨_, j, hj, e⟩
    · exact hL hq
  have k0 : q ∈ ([] : List (View.Piece (Elt Ideal) S4x512x512 .bf16)) → ∃ h' j, j ≤ n ∧ q = piece T n h' j := fun h => absurd h List.not_mem_nil
  fin_cases h <;> simp only [pieces, Nat.beq, cond_true, cond_false] at hq
  · exact k hq k0
  · exact k hq fun hq => k hq k0
  · exact k hq fun hq => k hq fun hq => k hq k0
  · exact k hq fun hq => k hq fun hq => k hq fun hq => k hq k0

theorem piece_mem (h j : Fin 4) (hj : j ≤ n) : piece T n h j ∈ pieces T n h := by
  fin_cases h <;> exact piece_mem_head _ j hj _

include hn

/-- The scratch at row `x` of head `h`, a row of a chunk the kernel visits. -/
theorem canon_pieces (h : Fin 4) (x y : Fin 512) (hx : x.val < 128 * (n.val + 1)) :
    View.canon (pieces T n h) (ix3 h x y) = eK (T h) x y * (T h).vs (ix2 x 0) := by
  have hlt := x.isLt
  have hnlt := n.isLt
  refine (View.canon_apply_of_pieces (planeV T) (pieces T n h) (fun q hq z => ?_) (ix3 h x y) ?_).trans rfl
  · obtain ⟨h', j, hj, rfl⟩ := mem_pieces hq
    exact piece_apply hn h' j hj z
  · refine ⟨piece T n h ⟨x.val / 128, by omega⟩, piece_mem h _ (by
      show x.val / 128 ≤ n.val; omega), ?_⟩
    have e : (piece T n h ⟨x.val / 128, by omega⟩).1.emb (ix3 (0 : Fin 1) (⟨x.val % 128, by omega⟩ : Fin 128) y) = (ix3 h x y : S4x512x512.Idx) :=
      funext fun a => Fin.ext (by
        fin_cases a
        · show h.val + 1 * 0 = h.val; omega
        · show 128 * (x.val / 128) + 1 * (x.val % 128) = x.val; omega
        · show 0 + 1 * y.val = y.val; omega)
    exact e ▸ (piece T n h ⟨x.val / 128, by omega⟩).1.toLoadRect.idx_mem _

omit hn

theorem wRead1_apply (v : View sig .tc .vmem S4x512x512 .bf16) (hn : ∀ h, LastChunk (T h) ⟨0, by decide⟩) (h : Fin 4) (x : Fin 128) (y : Fin 512) :
    wRead1 v T h (ix2 x y) = eK (T h) ⟨x.val, by omega⟩ y * (T h).vs (ix2 ⟨x.val, by omega⟩ 0) := by
  refine Eq.trans ?_ (canon_pieces hn h ⟨x.val, by omega⟩ y (by have := x.isLt; show x.val < 128 * 1; omega))
  unfold wRead1 LoadRect.valAlong
  rw [View.readCov_eq_canon', show Shape.reshapeEquiv (numel_box1 h) (ix2 x y) = Fin.cons ⟨0, Nat.one_pos⟩ (ix2 x y) from
    Shape.reshapeEquiv_cons_one _ _]
  refine congrArg _ (funext fun a => Fin.ext ?_)
  rw [LoadRect.idx_apply]
  fin_cases a
  · show (h.val + 0) + 1 * 0 = h.val; omega
  · show (0 + 0) + 1 * x.val = x.val; omega
  · show (0 + 0) + 1 * y.val = y.val; omega

theorem wRead2_apply (v : View sig .tc .vmem S4x512x512 .bf16) (hn : ∀ h, LastChunk (T h) ⟨1, by decide⟩) (h : Fin 4) (x : Fin 256) (y : Fin 512) :
    wRead2 v T h (ix2 x y) = eK (T h) ⟨x.val, by omega⟩ y * (T h).vs (ix2 ⟨x.val, by omega⟩ 0) := by
  refine Eq.trans ?_ (canon_pieces hn h ⟨x.val, by omega⟩ y (by have := x.isLt; show x.val < 128 * 2; omega))
  unfold wRead2 LoadRect.valAlong
  rw [View.readCov_eq_canon', show Shape.reshapeEquiv (numel_box2 h) (ix2 x y) = Fin.cons ⟨0, Nat.one_pos⟩ (ix2 x y) from
    Shape.reshapeEquiv_cons_one _ _]
  refine congrArg _ (funext fun a => Fin.ext ?_)
  rw [LoadRect.idx_apply]
  fin_cases a
  · show (h.val + 0) + 1 * 0 = h.val; omega
  · show (0 + 0) + 1 * x.val = x.val; omega
  · show (0 + 0) + 1 * y.val = y.val; omega

theorem wRead3_apply (v : View sig .tc .vmem S4x512x512 .bf16) (hn : ∀ h, LastChunk (T h) ⟨2, by decide⟩) (h : Fin 4) (x : Fin 384) (y : Fin 512) :
    wRead3 v T h (ix2 x y) = eK (T h) ⟨x.val, by omega⟩ y * (T h).vs (ix2 ⟨x.val, by omega⟩ 0) := by
  refine Eq.trans ?_ (canon_pieces hn h ⟨x.val, by omega⟩ y (by have := x.isLt; show x.val < 128 * 3; omega))
  unfold wRead3 LoadRect.valAlong
  rw [View.readCov_eq_canon', show Shape.reshapeEquiv (numel_box3 h) (ix2 x y) = Fin.cons ⟨0, Nat.one_pos⟩ (ix2 x y) from
    Shape.reshapeEquiv_cons_one _ _]
  refine congrArg _ (funext fun a => Fin.ext ?_)
  rw [LoadRect.idx_apply]
  fin_cases a
  · show (h.val + 0) + 1 * 0 = h.val; omega
  · show (0 + 0) + 1 * x.val = x.val; omega
  · show (0 + 0) + 1 * y.val = y.val; omega

theorem wRead4_apply (v : View sig .tc .vmem S4x512x512 .bf16) (hn : ∀ h, LastChunk (T h) ⟨3, by decide⟩) (h : Fin 4) (x : Fin 512) (y : Fin 512) :
    wRead4 v T h (ix2 x y) = eK (T h) x y * (T h).vs (ix2 x 0) := by
  refine Eq.trans ?_ (canon_pieces hn h x y (by have := x.isLt; show x.val < 128 * 4; omega))
  unfold wRead4 LoadRect.valAlong
  rw [View.readCov_eq_canon', show Shape.reshapeEquiv (numel_box4 h) (ix2 x y) = Fin.cons ⟨0, Nat.one_pos⟩ (ix2 x y) from
    Shape.reshapeEquiv_cons_one _ _]
  refine congrArg _ (funext fun a => Fin.ext ?_)
  rw [LoadRect.idx_apply]
  fin_cases a
  · show (h.val + 0) + 1 * 0 = h.val; omega
  · show (0 + 0) + 1 * x.val = x.val; omega
  · show (0 + 0) + 1 * y.val = y.val; omega

end Scratch

/-! ## The tiles from the blocks -/

/-- The tiles of head `h`, from the contents of the blocks. -/
def tileB (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (w : BitVec 32) (h : Fin 4) : Tiles Ideal where
  q := fun i => x0 (ix4 0 h (i 0) (i 1))
  k := fun i => x1 (ix4 0 h (i 0) (i 1))
  vt := fun i => x2 (ix4 0 h (i 0) (i 1))
  kr := fun i => x3 (ix3 h (i 0) (i 1))
  qr := fun i => x4 (ix3 h (i 0) (i 1))
  krs := fun i => x5 (ix3 h 0 (i 1))
  qrs := fun i => x6 (ix3 h 0 (i 1))
  qs := fun i => x7 (ix4 0 0 h (i 1))
  ks := fun i => x8 (ix4 0 0 (i 0) ⟨h.val, by omega⟩)
  vs := fun i => x8 (ix4 0 0 (i 0) ⟨4 + h.val, by omega⟩)
  slen := w

/-! ## The block of results -/

/-- The block of results of a step: head by head the weighted values. -/
def blockV (T : Fin 4 → Tiles Ideal) : FVec Ideal S1x512x384 .bf16 :=
  outBlock fun h i => outK (T h) (i 0) (i 1)

theorem block1 (T : Fin 4 → Tiles Ideal) (hn : ∀ h, LastChunk (T h) ⟨0, by decide⟩) (v : View sig .tc .vmem S4x512x512 .bf16) :
    outBlock (fun h => out1 (T h) (wRead1 v T h)) = blockV T := by
  unfold blockV
  refine congrArg outBlock (funext fun h => funext fun i => ?_)
  rw [eq_ix2 (n0 := 96) (n1 := 512) i]
  exact out1_apply (hn h) _ (wRead1_apply v hn h) _ _

theorem block2 (T : Fin 4 → Tiles Ideal) (hn : ∀ h, LastChunk (T h) ⟨1, by decide⟩) (v : View sig .tc .vmem S4x512x512 .bf16) :
    outBlock (fun h => out2 (T h) (wRead2 v T h)) = blockV T := by
  unfold blockV
  refine congrArg outBlock (funext fun h => funext fun i => ?_)
  rw [eq_ix2 (n0 := 96) (n1 := 512) i]
  exact out2_apply (hn h) _ (wRead2_apply v hn h) _ _

theorem block3 (T : Fin 4 → Tiles Ideal) (hn : ∀ h, LastChunk (T h) ⟨2, by decide⟩) (v : View sig .tc .vmem S4x512x512 .bf16) :
    outBlock (fun h => out3 (T h) (wRead3 v T h)) = blockV T := by
  unfold blockV
  refine congrArg outBlock (funext fun h => funext fun i => ?_)
  rw [eq_ix2 (n0 := 96) (n1 := 512) i]
  exact out3_apply (hn h) _ (wRead3_apply v hn h) _ _

theorem block4 (T : Fin 4 → Tiles Ideal) (hn : ∀ h, LastChunk (T h) ⟨3, by decide⟩) (v : View sig .tc .vmem S4x512x512 .bf16) :
    outBlock (fun h => out4 (T h) (wRead4 v T h)) = blockV T := by
  unfold blockV
  refine congrArg outBlock (funext fun h => funext fun i => ?_)
  rw [eq_ix2 (n0 := 96) (n1 := 512) i]
  exact out4_apply (hn h) _ (wRead4_apply v hn h) _ _

/-- Where coordinate `96 h + d` of row `y` is in the block of results. -/
theorem blockV_apply (T : Fin 4 → Tiles Ideal) (y : Fin 512) (z : Fin 384) (h : Fin 4) (d : Fin 96) (hz : z.val = 96 * h.val + d.val) :
    blockV T (ix3 0 y z) = outK (T h) d y := by
  unfold blockV outBlock
  pointwise []
  have hd := d.isLt
  obtain ⟨h, hh⟩ := h
  simp only at hz
  rcases (by omega : h = 0 ∨ h = 1 ∨ h = 2 ∨ h = 3) with rfl | rfl | rfl | rfl
  · rw [dif_pos (by omega)]
    exact congrArg (fun e : Fin 96 => outK (T 0) e y) (Fin.ext (by show z.val = d.val; omega))
  · rw [dif_neg (by omega), dif_pos (by omega)]
    exact congrArg (fun e : Fin 96 => outK (T 1) e y) (Fin.ext (by show z.val - 96 = d.val; omega))
  · rw [dif_neg (by omega), dif_neg (by omega), dif_pos (by omega)]
    exact congrArg (fun e : Fin 96 => outK (T 2) e y) (Fin.ext (by show z.val - 96 - 96 = d.val; omega))
  · rw [dif_neg (by omega), dif_neg (by omega), dif_neg (by omega)]
    exact congrArg (fun e : Fin 96 => outK (T 3) e y) (Fin.ext (by show z.val - 96 - 96 - 96 = d.val; omega))

end Cert.KernelIdeal.Hand
-- ==== Proof.PI.Tile.lean ====
/- What the body's loads read, index by index: the tiles of a head as entries of the blocks. -/
module

public import proofs.«01_k».proof.Proof.PI.Block

@[expose] public section

set_option maxRecDepth 16384

noncomputable section

namespace Cert.KernelIdeal.Hand

open Cert.KernelIdeal Cert.KernelIdeal.Gen
open Idealize.ShloMosaic Idealize.ShloMosaic.TcCoe

/-- A shape cast that drops two leading unit axes. -/
theorem cast4 {a b : ℕ} {α : Type} (x : (⟨4, ![1, 1, a, b]⟩ : Shape).Idx → α) (hc : (⟨4, ![1, 1, a, b]⟩ : Shape).ShapeCasts ⟨2, ![a, b]⟩) (i : Fin a) (j : Fin b) :
    shapeCast ⟨2, ![a, b]⟩ x hc (ix2 i j) = x (ix4 0 0 i j) :=
  shapeCast_apply x hc _ _ (by
    rw [Shape.rowMajor_val_two, Shape.rowMajor_val_four]
    simp [ix2, ix4]
    rfl)

/-- A shape cast that drops one leading unit axis. -/
theorem cast3 {a b : ℕ} {α : Type} (x : (⟨3, ![1, a, b]⟩ : Shape).Idx → α) (hc : (⟨3, ![1, a, b]⟩ : Shape).ShapeCasts ⟨2, ![a, b]⟩) (i : Fin a) (j : Fin b) :
    shapeCast ⟨2, ![a, b]⟩ x hc (ix2 i j) = x (ix3 0 i j) :=
  shapeCast_apply x hc _ _ (by
    rw [Shape.rowMajor_val_two, Shape.rowMajor_val_three]
    simp [ix2, ix3]
    rfl)

theorem tiles_eq (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole)
    (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (w : BitVec 32) :
    tiles arg3 harg3 arg4 harg4 arg5 harg5 arg6 harg6 arg7 harg7 arg8 harg8 arg9 harg9 arg10 harg10 arg11 harg11 x0 x1 x2 x3 x4 x5 x6 x7 x8 w = tileB x0 x1 x2 x3 x4 x5 x6 x7 x8 w := by
  funext h
  unfold tiles tileB
  congr 1
  · funext i
    rw [eq_ix2 (n0 := 512) (n1 := 96) i]
    generalize i 0 = p; generalize i 1 = q
    refine (cast4 (a := 512) (b := 96) _ _ p q).trans ((harg3.readAt_unread x0 _ _).trans (congrArg x0 (funext fun a => Fin.ext ?_)))
    fin_cases a
    · show 0 + 1 * 0 = 0; rfl
    · show h.val + 1 * 0 = h.val; omega
    · show 0 + 1 * p.val = p.val; omega
    · show 0 + 1 * q.val = q.val; omega
  · funext i
    rw [eq_ix2 (n0 := 512) (n1 := 96) i]
    generalize i 0 = p; generalize i 1 = q
    refine (cast4 (a := 512) (b := 96) _ _ p q).trans ((harg4.readAt_unread x1 _ _).trans (congrArg x1 (funext fun a => Fin.ext ?_)))
    fin_cases a
    · show 0 + 1 * 0 = 0; rfl
    · show h.val + 1 * 0 = h.val; omega
    · show 0 + 1 * p.val = p.val; omega
    · show 0 + 1 * q.val = q.val; omega
  · funext i
    rw [eq_ix2 (n0 := 96) (n1 := 512) i]
    generalize i 0 = p; generalize i 1 = q
    refine (cast4 (a := 96) (b := 512) _ _ p q).trans ((harg5.readAt_unread x2 _ _).trans (congrArg x2 (funext fun a => Fin.ext ?_)))
    fin_cases a
    · show 0 + 1 * 0 = 0; rfl
    · show h.val + 1 * 0 = h.val; omega
    · show 0 + 1 * p.val = p.val; omega
    · show 0 + 1 * q.val = q.val; omega
  · funext i
    rw [eq_ix2 (n0 := 256) (n1 := 96) i]
    generalize i 0 = p; generalize i 1 = q
    refine (cast3 (a := 256) (b := 96) _ _ p q).trans ((harg6.readAt_unread x3 _ _).trans (congrArg x3 (funext fun a => Fin.ext ?_)))
    fin_cases a
    · show h.val + 1 * 0 = h.val; omega
    · show 0 + 1 * p.val = p.val; omega
    · show 0 + 1 * q.val = q.val; omega
  · funext i
    rw [eq_ix2 (n0 := 256) (n1 := 96) i]
    generalize i 0 = p; generalize i 1 = q
    refine (cast3 (a := 256) (b := 96) _ _ p q).trans ((harg7.readAt_unread x4 _ _).trans (congrArg x4 (funext fun a => Fin.ext ?_)))
    fin_cases a
    · show h.val + 1 * 0 = h.val; omega
    · show 0 + 1 * p.val = p.val; omega
    · show 0 + 1 * q.val = q.val; omega
  · funext i
    rw [eq_ix2 (n0 := 1) (n1 := 256) i]
    generalize i 0 = p; generalize i 1 = q
    refine (cast3 (a := 1) (b := 256) _ _ p q).trans ((harg8.readAt_unread x5 _ _).trans (congrArg x5 (funext fun a => Fin.ext ?_)))
    fin_cases a
    · show h.val + 1 * 0 = h.val; omega
    · show 0 + 1 * p.val = 0; have : p.val < 1 := p.isLt; omega
    · show 0 + 1 * q.val = q.val; omega
  · funext i
    rw [eq_ix2 (n0 := 1) (n1 := 256) i]
    generalize i 0 = p; generalize i 1 = q
    refine (cast3 (a := 1) (b := 256) _ _ p q).trans ((harg9.readAt_unread x6 _ _).trans (congrArg x6 (funext fun a => Fin.ext ?_)))
    fin_cases a
    · show h.val + 1 * 0 = h.val; omega
    · show 0 + 1 * p.val = 0; have : p.val < 1 := p.isLt; omega
    · show 0 + 1 * q.val = q.val; omega
  · funext i
    rw [eq_ix2 (n0 := 1) (n1 := 512) i]
    generalize i 0 = p; generalize i 1 = q
    refine (cast4 (a := 1) (b := 512) _ _ p q).trans ((harg10.readAt_unread x7 _ _).trans (congrArg x7 (funext fun a => Fin.ext ?_)))
    fin_cases a
    · show 0 + 1 * 0 = 0; rfl
    · show 0 + 1 * 0 = 0; rfl
    · show h.val + 1 * p.val = h.val; have : p.val < 1 := p.isLt; omega
    · show 0 + 1 * q.val = q.val; omega
  · funext i
    rw [eq_ix2 (n0 := 512) (n1 := 1) i]
    generalize i 0 = p; generalize i 1 = q
    refine (cast4 (a := 512) (b := 1) _ _ p q).trans ((harg11.readAt_unread x8 _ _).trans (congrArg x8 (funext fun a => Fin.ext ?_)))
    fin_cases a
    · show 0 + 1 * 0 = 0; rfl
    · show 0 + 1 * 0 = 0; rfl
    · show 0 + 1 * p.val = p.val; omega
    · show h.val + 1 * q.val = h.val; have : q.val < 1 := q.isLt; omega
  · funext i
    rw [eq_ix2 (n0 := 512) (n1 := 1) i]
    generalize i 0 = p; generalize i 1 = q
    refine (cast4 (a := 512) (b := 1) _ _ p q).trans ((harg11.readAt_unread x8 _ _).trans (congrArg x8 (funext fun a => Fin.ext ?_)))
    fin_cases a
    · show 0 + 1 * 0 = 0; rfl
    · show 0 + 1 * 0 = 0; rfl
    · show 0 + 1 * p.val = p.val; omega
    · show (4 + h.val) + 1 * q.val = 4 + h.val; have : q.val < 1 := q.isLt; omega

end Cert.KernelIdeal.Hand
-- ==== Proof.PI.Val1.lean ====
/- What the body stores when the sequence has 1 chunk of keys, in the words of the head's definitions. -/
module

public import proofs.«01_k».proof.Proof.PI.Pieces
public import proofs.«01_k».proof.Proof.PI.Run1

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

attribute [local irreducible] mulf addf subf divf extractStridedSlice broadcastTo broadcast shapeCast transpose dynamicRotate
  concatenate multiReduction Idealize.ShloMosaic.exp2 truncf extf select constant iota maximumf cmpi addi View.readAt View.readCov

set_option maxHeartbeats 8000000 in
theorem val1 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    (run1 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1
      = [⟨Rect.unit (s := S1x512x384) ![0, 0, 0] S1x512x384.size inb_S1x512x384_S1x512x384_0_0_0,
          outBlock fun h => out1 (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos))) h)
            (wRead1 arg13.view (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos)))) h)⟩] := by
  delta run1
  rfl

end Cert.KernelIdeal.Hand
-- ==== Proof.PI.Val2.lean ====
/- What the body stores when the sequence has 2 chunks of keys, in the words of the head's definitions. -/
module

public import proofs.«01_k».proof.Proof.PI.Pieces
public import proofs.«01_k».proof.Proof.PI.Run2

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

attribute [local irreducible] mulf addf subf divf extractStridedSlice broadcastTo broadcast shapeCast transpose dynamicRotate
  concatenate multiReduction Idealize.ShloMosaic.exp2 truncf extf select constant iota maximumf cmpi addi View.readAt View.readCov

set_option maxHeartbeats 8000000 in
theorem val2 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    (run2 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1
      = [⟨Rect.unit (s := S1x512x384) ![0, 0, 0] S1x512x384.size inb_S1x512x384_S1x512x384_0_0_0,
          outBlock fun h => out2 (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos))) h)
            (wRead2 arg13.view (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos)))) h)⟩] := by
  delta run2
  rfl

end Cert.KernelIdeal.Hand
-- ==== Proof.PI.Val3.lean ====
/- What the body stores when the sequence has 3 chunks of keys, in the words of the head's definitions. -/
module

public import proofs.«01_k».proof.Proof.PI.Pieces
public import proofs.«01_k».proof.Proof.PI.Run3

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

attribute [local irreducible] mulf addf subf divf extractStridedSlice broadcastTo broadcast shapeCast transpose dynamicRotate
  concatenate multiReduction Idealize.ShloMosaic.exp2 truncf extf select constant iota maximumf cmpi addi View.readAt View.readCov

set_option maxHeartbeats 8000000 in
theorem val3 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : cond0_2 i (tbM0_0.view.readAt (Elt F) (Rect.unit (s := S4) (k0_off1 i) S1.size (k0_off1_inb i)).toLoadRect xt0 (Shape.Idx.first (numel1_S1.symm ▸ Nat.one_pos)))) (hc3 : ¬cond0_3 i (tbM0_0.view.readAt (Elt F) (Rect.unit (s := S4) (k0_off1 i) S1.size (k0_off1_inb i)).toLoadRect xt0 (Shape.Idx.first (numel1_S1.symm ▸ Nat.one_pos)))) :
    (run3 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1
      = [⟨Rect.unit (s := S1x512x384) ![0, 0, 0] S1x512x384.size inb_S1x512x384_S1x512x384_0_0_0,
          outBlock fun h => out3 (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos))) h)
            (wRead3 arg13.view (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos)))) h)⟩] := by
  delta run3
  rfl

end Cert.KernelIdeal.Hand
-- ==== Proof.PI.Val4.lean ====
/- What the body stores when the sequence has 4 chunks of keys, in the words of the head's definitions. -/
module

public import proofs.«01_k».proof.Proof.PI.Pieces
public import proofs.«01_k».proof.Proof.PI.Run4

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

attribute [local irreducible] mulf addf subf divf extractStridedSlice broadcastTo broadcast shapeCast transpose dynamicRotate
  concatenate multiReduction Idealize.ShloMosaic.exp2 truncf extf select constant iota maximumf cmpi addi View.readAt View.readCov

set_option maxHeartbeats 8000000 in
theorem val4 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec F S1x4x512x96 .fp8e4m3) (x1 : Vec F S1x4x512x96 .fp8e4m3) (x2 : Vec F S1x4x96x512 .fp8e4m3) (x3 : Vec F S4x256x96 .fp8e4m3) (x4 : Vec F S4x256x96 .fp8e4m3) (x5 : Vec F S4x1x256 .f32) (x6 : Vec F S4x1x256 .f32) (x7 : Vec F S1x1x4x512 .f32) (x8 : Vec F S1x1x512x8 .f32) (xt0 : TbBuf0 (F := F) c tbM0_0) (hc0 : ¬cond0_0 i (tbM0_0.view.readAt (Elt F) (Rect.unit (s := S4) (k0_off1 i) S1.size (k0_off1_inb i)).toLoadRect xt0 (Shape.Idx.first (numel1_S1.symm ▸ Nat.one_pos)))) (hc1 : ¬cond0_1 i (tbM0_0.view.readAt (Elt F) (Rect.unit (s := S4) (k0_off1 i) S1.size (k0_off1_inb i)).toLoadRect xt0 (Shape.Idx.first (numel1_S1.symm ▸ Nat.one_pos)))) (hc2 : ¬cond0_2 i (tbM0_0.view.readAt (Elt F) (Rect.unit (s := S4) (k0_off1 i) S1.size (k0_off1_inb i)).toLoadRect xt0 (Shape.Idx.first (numel1_S1.symm ▸ Nat.one_pos)))) (hc3 : cond0_3 i (tbM0_0.view.readAt (Elt F) (Rect.unit (s := S4) (k0_off1 i) S1.size (k0_off1_inb i)).toLoadRect xt0 (Shape.Idx.first (numel1_S1.symm ▸ Nat.one_pos)))) :
    (run4 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1
      = [⟨Rect.unit (s := S1x512x384) ![0, 0, 0] S1x512x384.size inb_S1x512x384_S1x512x384_0_0_0,
          outBlock fun h => out4 (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos))) h)
            (wRead4 arg13.view (tiles arg3 harg3 arg4 harg4 arg5 harg5 arg6 harg6 arg7 harg7 arg8 harg8 arg9 harg9 arg10 harg10 arg11 harg11 x0 x1 x2 x3 x4 x5 x6 x7 x8
              (tbM0_0.view.readAt (Elt F) (Rect.unit (s := S4) (k0_off1 i) S1.size (k0_off1_inb i)).toLoadRect xt0 (Shape.Idx.first (numel1_S1.symm ▸ Nat.one_pos)))) h)⟩] := by
  delta run4
  rfl

end Cert.KernelIdeal.Hand
-- ==== Proof.PI.Read.lean ====
/- The run of `KernelIdeal` with the contents of the output named: every step leaves the block of its heads' weighted values. -/
module

public import proofs.«01_k».proof.Proof.PI.Conds
public import proofs.«01_k».proof.Proof.PI.Run0
public import proofs.«01_k».proof.Proof.PI.Run1
public import proofs.«01_k».proof.Proof.PI.Run2
public import proofs.«01_k».proof.Proof.PI.Run3
public import proofs.«01_k».proof.Proof.PI.Run4
public import proofs.«01_k».proof.Proof.PI.Frame
public import proofs.«01_k».proof.Proof.PI.Tile
public import proofs.«01_k».proof.Proof.PI.Val1
public import proofs.«01_k».proof.Proof.PI.Val2
public import proofs.«01_k».proof.Proof.PI.Val3
public import proofs.«01_k».proof.Proof.PI.Val4
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## Which chunk is the last -/

theorem chunks_last : ∀ n : Fin 513, (chunks (BitVec.ofNat 32 n.val) = 1#32 → 128 * 0 < n.val ∧ n.val ≤ 128 * 1)
    ∧ (chunks (BitVec.ofNat 32 n.val) = 2#32 → 128 * 1 < n.val ∧ n.val ≤ 128 * 2)
    ∧ (chunks (BitVec.ofNat 32 n.val) = 3#32 → 128 * 2 < n.val ∧ n.val ≤ 128 * 3)
    ∧ (chunks (BitVec.ofNat 32 n.val) = 4#32 → 128 * 3 < n.val ∧ n.val ≤ 128 * 4)
    ∧ (0 < n.val → chunks (BitVec.ofNat 32 n.val) = 1#32 ∨ chunks (BitVec.ofNat 32 n.val) = 2#32
      ∨ chunks (BitVec.ofNat 32 n.val) = 3#32 ∨ chunks (BitVec.ofNat 32 n.val) = 4#32) := by decide +kernel

theorem chunks_word (v : BitVec 32) (hv : v.toNat ≤ 512) : (chunks v = 1#32 → 128 * 0 < v.toNat ∧ v.toNat ≤ 128 * 1)
    ∧ (chunks v = 2#32 → 128 * 1 < v.toNat ∧ v.toNat ≤ 128 * 2)
    ∧ (chunks v = 3#32 → 128 * 2 < v.toNat ∧ v.toNat ≤ 128 * 3)
    ∧ (chunks v = 4#32 → 128 * 3 < v.toNat ∧ v.toNat ≤ 128 * 4)
    ∧ (0 < v.toNat → chunks v = 1#32 ∨ chunks v = 2#32 ∨ chunks v = 3#32 ∨ chunks v = 4#32) := by
  have h := chunks_last ⟨v.toNat, by omega⟩
  simp only [BitVec.ofNat_toNat, BitVec.setWidth_eq] at h
  exact h

/-! ## What a step's store leaves -/

theorem whole_mem (y : S1x512x384.Idx) : y ∈ (Rect.unit (s := S1x512x384) ![0, 0, 0] S1x512x384.size inb_S1x512x384_S1x512x384_0_0_0).set := by
  have h := (Rect.unit (s := S1x512x384) ![0, 0, 0] S1x512x384.size inb_S1x512x384_S1x512x384_0_0_0).toLoadRect.idx_mem y
  have e : (Rect.unit (s := S1x512x384) ![0, 0, 0] S1x512x384.size inb_S1x512x384_S1x512x384_0_0_0).toLoadRect.idx y = y :=
    funext fun a => Fin.ext (by
      fin_cases a
      · show 0 + 1 * (y 0).val = (y 0).val; omega
      · show 0 + 1 * (y 1).val = (y 1).val; omega
      · show 0 + 1 * (y 2).val = (y 2).val; omega)
  exact e ▸ h

theorem read1 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (xt0 : TbBuf0 (F := Ideal) c tbM0_0) (hc0 : cond0_0 i (tbM0_0.view.readAt (Elt Ideal) (Rect.unit (s := S4) (k0_off1 i) S1.size (k0_off1_inb i)).toLoadRect xt0 (Shape.Idx.first (numel1_S1.symm ▸ Nat.one_pos)))) (hc1 : ¬cond0_1 i (tbM0_0.view.readAt (Elt Ideal) (Rect.unit (s := S4) (k0_off1 i) S1.size (k0_off1_inb i)).toLoadRect xt0 (Shape.Idx.first (numel1_S1.symm ▸ Nat.one_pos)))) (hc2 : ¬cond0_2 i (tbM0_0.view.readAt (Elt Ideal) (Rect.unit (s := S4) (k0_off1 i) S1.size (k0_off1_inb i)).toLoadRect xt0 (Shape.Idx.first (numel1_S1.symm ▸ Nat.one_pos)))) (hc3 : ¬cond0_3 i (tbM0_0.view.readAt (Elt Ideal) (Rect.unit (s := S4) (k0_off1 i) S1.size (k0_off1_inb i)).toLoadRect xt0 (Shape.Idx.first (numel1_S1.symm ▸ Nat.one_pos))))
    (hn : 128 * 0 < (tbM0_0.view.readAt (Elt Ideal) (Rect.unit (s := S4) (k0_off1 i) S1.size (k0_off1_inb i)).toLoadRect xt0 (Shape.Idx.first (numel1_S1.symm ▸ Nat.one_pos))).toNat ∧ (tbM0_0.view.readAt (Elt Ideal) (Rect.unit (s := S4) (k0_off1 i) S1.size (k0_off1_inb i)).toLoadRect xt0 (Shape.Idx.first (numel1_S1.symm ▸ Nat.one_pos))).toNat ≤ 128 * 1) (f : Buf (Elt Ideal) (arg12.view.loc (c : Thread nD τ))) :
    arg12.view.read (Elt Ideal) (arg12.view.writes (Elt Ideal) f (run1 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1)
      = blockV (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) := by
  rw [val1, tiles_eq]
  refine (View.read_writes_eq_canon _ _ _ fun y => ⟨_, List.mem_singleton_self _, whole_mem y⟩).trans ?_
  refine (View.canon_cons_unit_lit _ _ _ fun a => by fin_cases a <;> rfl).trans ?_
  exact block1 (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) (fun _ => hn) _

theorem read2 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (xt0 : TbBuf0 (F := Ideal) c tbM0_0) (hc0 : ¬cond0_0 i (tbM0_0.view.readAt (Elt Ideal) (Rect.unit (s := S4) (k0_off1 i) S1.size (k0_off1_inb i)).toLoadRect xt0 (Shape.Idx.first (numel1_S1.symm ▸ Nat.one_pos)))) (hc1 : cond0_1 i (tbM0_0.view.readAt (Elt Ideal) (Rect.unit (s := S4) (k0_off1 i) S1.size (k0_off1_inb i)).toLoadRect xt0 (Shape.Idx.first (numel1_S1.symm ▸ Nat.one_pos)))) (hc2 : ¬cond0_2 i (tbM0_0.view.readAt (Elt Ideal) (Rect.unit (s := S4) (k0_off1 i) S1.size (k0_off1_inb i)).toLoadRect xt0 (Shape.Idx.first (numel1_S1.symm ▸ Nat.one_pos)))) (hc3 : ¬cond0_3 i (tbM0_0.view.readAt (Elt Ideal) (Rect.unit (s := S4) (k0_off1 i) S1.size (k0_off1_inb i)).toLoadRect xt0 (Shape.Idx.first (numel1_S1.symm ▸ Nat.one_pos))))
    (hn : 128 * 1 < (tbM0_0.view.readAt (Elt Ideal) (Rect.unit (s := S4) (k0_off1 i) S1.size (k0_off1_inb i)).toLoadRect xt0 (Shape.Idx.first (numel1_S1.symm ▸ Nat.one_pos))).toNat ∧ (tbM0_0.view.readAt (Elt Ideal) (Rect.unit (s := S4) (k0_off1 i) S1.size (k0_off1_inb i)).toLoadRect xt0 (Shape.Idx.first (numel1_S1.symm ▸ Nat.one_pos))).toNat ≤ 128 * 2) (f : Buf (Elt Ideal) (arg12.view.loc (c : Thread nD τ))) :
    arg12.view.read (Elt Ideal) (arg12.view.writes (Elt Ideal) f (run2 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1)
      = blockV (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) := by
  rw [val2, tiles_eq]
  refine (View.read_writes_eq_canon _ _ _ fun y => ⟨_, List.mem_singleton_self _, whole_mem y⟩).trans ?_
  refine (View.canon_cons_unit_lit _ _ _ fun a => by fin_cases a <;> rfl).trans ?_
  exact block2 (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) (fun _ => hn) _

theorem read3 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (xt0 : TbBuf0 (F := Ideal) c tbM0_0) (hc0 : ¬cond0_0 i (tbM0_0.view.readAt (Elt Ideal) (Rect.unit (s := S4) (k0_off1 i) S1.size (k0_off1_inb i)).toLoadRect xt0 (Shape.Idx.first (numel1_S1.symm ▸ Nat.one_pos)))) (hc1 : ¬cond0_1 i (tbM0_0.view.readAt (Elt Ideal) (Rect.unit (s := S4) (k0_off1 i) S1.size (k0_off1_inb i)).toLoadRect xt0 (Shape.Idx.first (numel1_S1.symm ▸ Nat.one_pos)))) (hc2 : cond0_2 i (tbM0_0.view.readAt (Elt Ideal) (Rect.unit (s := S4) (k0_off1 i) S1.size (k0_off1_inb i)).toLoadRect xt0 (Shape.Idx.first (numel1_S1.symm ▸ Nat.one_pos)))) (hc3 : ¬cond0_3 i (tbM0_0.view.readAt (Elt Ideal) (Rect.unit (s := S4) (k0_off1 i) S1.size (k0_off1_inb i)).toLoadRect xt0 (Shape.Idx.first (numel1_S1.symm ▸ Nat.one_pos))))
    (hn : 128 * 2 < (tbM0_0.view.readAt (Elt Ideal) (Rect.unit (s := S4) (k0_off1 i) S1.size (k0_off1_inb i)).toLoadRect xt0 (Shape.Idx.first (numel1_S1.symm ▸ Nat.one_pos))).toNat ∧ (tbM0_0.view.readAt (Elt Ideal) (Rect.unit (s := S4) (k0_off1 i) S1.size (k0_off1_inb i)).toLoadRect xt0 (Shape.Idx.first (numel1_S1.symm ▸ Nat.one_pos))).toNat ≤ 128 * 3) (f : Buf (Elt Ideal) (arg12.view.loc (c : Thread nD τ))) :
    arg12.view.read (Elt Ideal) (arg12.view.writes (Elt Ideal) f (run3 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1)
      = blockV (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) := by
  rw [val3, tiles_eq]
  refine (View.read_writes_eq_canon _ _ _ fun y => ⟨_, List.mem_singleton_self _, whole_mem y⟩).trans ?_
  refine (View.canon_cons_unit_lit _ _ _ fun a => by fin_cases a <;> rfl).trans ?_
  exact block3 (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) (fun _ => hn) _

theorem read4 (c : Dev nD) (i : grid0.Coords) (arg3 : Memref sig .tc .vmem S1x4x512x96 .fp8e4m3) (harg3 : arg3.IsWhole) (arg4 : Memref sig .tc .vmem S1x4x512x96 .fp8e4m3) (harg4 : arg4.IsWhole) (arg5 : Memref sig .tc .vmem S1x4x96x512 .fp8e4m3) (harg5 : arg5.IsWhole) (arg6 : Memref sig .tc .vmem S4x256x96 .fp8e4m3) (harg6 : arg6.IsWhole) (arg7 : Memref sig .tc .vmem S4x256x96 .fp8e4m3) (harg7 : arg7.IsWhole) (arg8 : Memref sig .tc .vmem S4x1x256 .f32) (harg8 : arg8.IsWhole) (arg9 : Memref sig .tc .vmem S4x1x256 .f32) (harg9 : arg9.IsWhole) (arg10 : Memref sig .tc .vmem S1x1x4x512 .f32) (harg10 : arg10.IsWhole) (arg11 : Memref sig .tc .vmem S1x1x512x8 .f32) (harg11 : arg11.IsWhole) (arg12 : Memref sig .tc .vmem S1x512x384 .bf16) (harg12 : arg12.IsWhole) (arg13 : Memref sig .tc .vmem S4x512x512 .bf16) (harg13 : arg13.IsWhole)
    (x0 : Vec Ideal S1x4x512x96 .fp8e4m3) (x1 : Vec Ideal S1x4x512x96 .fp8e4m3) (x2 : Vec Ideal S1x4x96x512 .fp8e4m3) (x3 : Vec Ideal S4x256x96 .fp8e4m3) (x4 : Vec Ideal S4x256x96 .fp8e4m3) (x5 : Vec Ideal S4x1x256 .f32) (x6 : Vec Ideal S4x1x256 .f32) (x7 : Vec Ideal S1x1x4x512 .f32) (x8 : Vec Ideal S1x1x512x8 .f32) (xt0 : TbBuf0 (F := Ideal) c tbM0_0) (hc0 : ¬cond0_0 i (tbM0_0.view.readAt (Elt Ideal) (Rect.unit (s := S4) (k0_off1 i) S1.size (k0_off1_inb i)).toLoadRect xt0 (Shape.Idx.first (numel1_S1.symm ▸ Nat.one_pos)))) (hc1 : ¬cond0_1 i (tbM0_0.view.readAt (Elt Ideal) (Rect.unit (s := S4) (k0_off1 i) S1.size (k0_off1_inb i)).toLoadRect xt0 (Shape.Idx.first (numel1_S1.symm ▸ Nat.one_pos)))) (hc2 : ¬cond0_2 i (tbM0_0.view.readAt (Elt Ideal) (Rect.unit (s := S4) (k0_off1 i) S1.size (k0_off1_inb i)).toLoadRect xt0 (Shape.Idx.first (numel1_S1.symm ▸ Nat.one_pos)))) (hc3 : cond0_3 i (tbM0_0.view.readAt (Elt Ideal) (Rect.unit (s := S4) (k0_off1 i) S1.size (k0_off1_inb i)).toLoadRect xt0 (Shape.Idx.first (numel1_S1.symm ▸ Nat.one_pos))))
    (hn : 128 * 3 < (tbM0_0.view.readAt (Elt Ideal) (Rect.unit (s := S4) (k0_off1 i) S1.size (k0_off1_inb i)).toLoadRect xt0 (Shape.Idx.first (numel1_S1.symm ▸ Nat.one_pos))).toNat ∧ (tbM0_0.view.readAt (Elt Ideal) (Rect.unit (s := S4) (k0_off1 i) S1.size (k0_off1_inb i)).toLoadRect xt0 (Shape.Idx.first (numel1_S1.symm ▸ Nat.one_pos))).toNat ≤ 128 * 4) (f : Buf (Elt Ideal) (arg12.view.loc (c : Thread nD τ))) :
    arg12.view.read (Elt Ideal) (arg12.view.writes (Elt Ideal) f (run4 c i arg3 harg3 arg4 harg4 arg5 harg5 arg6 harg6 arg7 harg7 arg8 harg8 arg9 harg9 arg10 harg10 arg11 harg11 arg12 harg12 arg13 harg13 x0 x1 x2 x3 x4 x5 x6 x7 x8 xt0 hc0 hc1 hc2 hc3).1)
      = blockV (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) := by
  rw [val4, tiles_eq]
  refine (View.read_writes_eq_canon _ _ _ fun y => ⟨_, List.mem_singleton_self _, whole_mem y⟩).trans ?_
  refine (View.canon_cons_unit_lit _ _ _ fun a => by fin_cases a <;> rfl).trans ?_
  exact block4 (tileB x0 x1 x2 x3 x4 x5 x6 x7 x8 (tbM0_0.view.readAt (Elt Ideal) (Rect.unit (s := S4) (k0_off1 i) S1.size (k0_off1_inb i)).toLoadRect xt0 (Shape.Idx.first (numel1_S1.symm ▸ Nat.one_pos)))) (fun _ => hn) _

variable (m : (ℓ : Loc nD τ sig) → Buf (Elt Ideal) ℓ) (ρ : Dev nD → PrngReg)

end Cert.KernelIdeal.Hand

end
-- ==== Proof.PI.Body.lean ====
/- The run of `KernelIdeal` with the contents of the output named: every step leaves the block of its heads' weighted values. -/
module

public import proofs.«01_k».proof.Proof.PI.Conds
public import proofs.«01_k».proof.Proof.PI.Run0
public import proofs.«01_k».proof.Proof.PI.Run1
public import proofs.«01_k».proof.Proof.PI.Run2
public import proofs.«01_k».proof.Proof.PI.Run3
public import proofs.«01_k».proof.Proof.PI.Run4
public import proofs.«01_k».proof.Proof.PI.Frame
public import proofs.«01_k».proof.Proof.PI.Read
public import proofs.«01_k».proof.Proof.PI.Val1
public import proofs.«01_k».proof.Proof.PI.Val2
public import proofs.«01_k».proof.Proof.PI.Val3
public import proofs.«01_k».proof.Proof.PI.Val4
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace Val

/-- The length of the sequence step `t` works on. -/
def word (t : Fin grid0.N) : BitVec 32 :=
  tbM0_0.view.readAt (Elt Ideal) (Rect.unit (s := S4) (k0_off1 (grid0.coords t)) S1.size (k0_off1_inb (grid0.coords t))).toLoadRect (tbl m 0) (Shape.Idx.first (numel1_S1.symm ▸ Nat.one_pos))

/-- The tiles of step `t`, head by head. -/
def tileAt (hO : Ok m) (c : Dev nD) (t : Fin (cfgM m hO).N) : Fin 4 → Tiles Ideal :=
  tileB (iblk m hO c 0 t) (iblk m hO c 1 t) (iblk m hO c 2 t) (iblk m hO c 3 t) (iblk m hO c 4 t) (iblk m hO c 5 t) (iblk m hO c 6 t) (iblk m hO c 7 t) (iblk m hO c 8 t) (word m t)

def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => blockV (tileAt m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

theorem after0_9 (hO : Ok m) (c : Dev nD) (t : Fin (cfgM m hO).N) : (dats m hO 0 c).after 9 t = blockV (tileAt m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t)

set_option maxHeartbeats 12800000 in
/-- The body at any point: the inputs' memrefs hold their blocks (`before0_W`); so the
    run applies; the invariant hands the body its scratch buffers at some contents (and the generator register) and takes them back at some contents (`PhiA_eq`); the core owes nothing throughout. -/
theorem sound_body (hO : Ok m) (hL : ∀ t, 0 < (word m t).toNat ∧ (word m t).toNat ≤ 512) (c : Dev nD) (t : Fin (cfgM m hO).N) :
    bodyPre m hO c t ⊢ wp Idealize.ShloMosaic.frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  rw [show (dats m hO 0 c).leavesExact 6 t = owns (c : Thread nD τ) (ms0_6 m hO t) fullShare ((dats m hO 0 c).after 6 t) from by
      unfold Dat.leavesExact; rw [liveAt0_6 m hO t]; try rfl, after0_6]
  rw [show (dats m hO 0 c).leavesExact 7 t = owns (c : Thread nD τ) (ms0_7 m hO t) fullShare ((dats m hO 0 c).after 7 t) from by
      unfold Dat.leavesExact; rw [liveAt0_7 m hO t]; try rfl, after0_7]
  rw [show (dats m hO 0 c).leavesExact 8 t = owns (c : Thread nD τ) (ms0_8 m hO t) fullShare ((dats m hO 0 c).after 8 t) from by
      unfold Dat.leavesExact; rw [liveAt0_8 m hO t]; try rfl, after0_8]
  rw [show (dats m hO 0 c).leavesExact 9 t = owns (c : Thread nD τ) (ms0_9 m hO t) fullShare ((dats m hO 0 c).after 9 t) from by
      unfold Dat.leavesExact; rw [flush0_9 (adm m hO) t]; cases (cfgM m hO).idle 9 ((cfgM m hO).grid.coords t) <;> rfl, after0_9]
  have hw := chunks_word (word m t) (hL t).2
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : cond0_0 (grid0.coords t) (tbM0_0.view.readAt (Elt Ideal) (Rect.unit (s := S4) (k0_off1 (grid0.coords t)) S1.size (k0_off1_inb (grid0.coords t))).toLoadRect (tbl m 0) (Shape.Idx.first (numel1_S1.symm ▸ Nat.one_pos)))
  · iapply ((run1 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) h0 (cond1_ne2 h0) (cond1_ne3 h0) (cond1_ne4 h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro
    exact read1 c (grid0.coords t) _ _ _ _ _ _ _ _ _ _ _ _ _ _ _ _ _ _ _ _ _ _ _ _ _ _ _ _ _ _ _ _ _ _ _ _ (hw.1 (cond1_iff.mp h0)) _
  by_cases h1 : cond0_1 (grid0.coords t) (tbM0_0.view.readAt (Elt Ideal) (Rect.unit (s := S4) (k0_off1 (grid0.coords t)) S1.size (k0_off1_inb (grid0.coords t))).toLoadRect (tbl m 0) (Shape.Idx.first (numel1_S1.symm ▸ Nat.one_pos)))
  · iapply ((run2 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond2_ne1 h1) h1 (cond2_ne3 h1) (cond2_ne4 h1)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro
    exact read2 c (grid0.coords t) _ _ _ _ _ _ _ _ _ _ _ _ _ _ _ _ _ _ _ _ _ _ _ _ _ _ _ _ _ _ _ _ _ _ _ _ (hw.2.1 (cond2_iff.mp h1)) _
  by_cases h2 : cond0_2 (grid0.coords t) (tbM0_0.view.readAt (Elt Ideal) (Rect.unit (s := S4) (k0_off1 (grid0.coords t)) S1.size (k0_off1_inb (grid0.coords t))).toLoadRect (tbl m 0) (Shape.Idx.first (numel1_S1.symm ▸ Nat.one_pos)))
  · iapply ((run3 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond3_ne1 h2) (cond3_ne2 h2) h2 (cond3_ne4 h2)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro
    exact read3 c (grid0.coords t) _ _ _ _ _ _ _ _ _ _ _ _ _ _ _ _ _ _ _ _ _ _ _ _ _ _ _ _ _ _ _ _ _ _ _ _ (hw.2.2.1 (cond3_iff.mp h2)) _
  by_cases h3 : cond0_3 (grid0.coords t) (tbM0_0.view.readAt (Elt Ideal) (Rect.unit (s := S4) (k0_off1 (grid0.coords t)) S1.size (k0_off1_inb (grid0.coords t))).toLoadRect (tbl m 0) (Shape.Idx.first (numel1_S1.symm ▸ Nat.one_pos)))
  · iapply ((run4 c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (cond4_ne1 h3) (cond4_ne2 h3) (cond4_ne3 h3) h3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HT0]; · iexact HT0
    iintro ⟨H0, H1, H2, H3, H4, H5, H6, H7, H8, ⟨%f9, H9⟩, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro
    exact read4 c (grid0.coords t) _ _ _ _ _ _ _ _ _ _ _ _ _ _ _ _ _ _ _ _ _ _ _ _ _ _ _ _ _ _ _ _ _ _ _ _ (hw.2.2.2.1 (cond4_iff.mp h3)) _
  exfalso
  rcases hw.2.2.2.2 (hL t).1 with h | h | h | h
  · exact h0 (cond1_iff.mpr h)
  · exact h1 (cond2_iff.mpr h)
  · exact h2 (cond3_iff.mpr h)
  · exact h3 (cond4_iff.mpr h)

end Val

end Cert.KernelIdeal.Hand

end
-- ==== Proof.PI.Value.lean ====
/- The run of `KernelIdeal` with the contents of the output named: every step leaves the block of its heads' weighted values. -/
module

public import proofs.«01_k».proof.Proof.PI.Conds
public import proofs.«01_k».proof.Proof.PI.Run0
public import proofs.«01_k».proof.Proof.PI.Run1
public import proofs.«01_k».proof.Proof.PI.Run2
public import proofs.«01_k».proof.Proof.PI.Run3
public import proofs.«01_k».proof.Proof.PI.Run4
public import proofs.«01_k».proof.Proof.PI.Frame
public import proofs.«01_k».proof.Proof.PI.Body
public import proofs.«01_k».proof.Proof.PI.Val1
public import proofs.«01_k».proof.Proof.PI.Val2
public import proofs.«01_k».proof.Proof.PI.Val3
public import proofs.«01_k».proof.Proof.PI.Val4
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace Val

attribute [local irreducible] tbl k0_cond1 k0_cond2 k0_cond3 k0_cond4 in
set_option maxHeartbeats 3200000 in
/-- The library's body obligation, at every point. -/
theorem body_obligation (hO : Ok m) (hL : ∀ t, 0 < (word m t).toNat ∧ (word m t).toNat ≤ 512) (c : Dev nD) : BodyObligation (dats m hO 0 c) (defs₀ (F := Ideal)) Variants.none () Set.univ := fun t => by
  rw [bigSep_W0, bigSep_W0, defs₀_row m hO]
  refine triple_restated (sound_body m hO hL c t) rfl .rfl fun _ => ?_
  unfold bodyPost Dat.leavesExact
  exact .rfl

set_option backward.isDefEq.respectTransparency.types false in
/-- The launch: every array ends at what the steps leave, every other buffer as the pipeline found it. -/
theorem run_main (hO : Ok m) (hL : ∀ t, 0 < (word m t).toNat ∧ (word m t).toNat ≤ 512) :
    θ_run defs (onTc (τ := τ) (main (F := Ideal))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO hL c).loose) (hshare := fun c => (dats m hO 0 c).share_full fun _ => rfl)
    (howed := fun _ _ => rfl) (V := V m) (hmain := hmain m Variants.none) (hA := A_eq m hO) (hpf := V_pre m) (hΦ := fun _ _ => rfl)

end Val

end Cert.KernelIdeal.Hand

end
-- ==== Proof.Math.lean ====
/- The mathematics of one row of the attention over the extended reals: the factors of a score moved about, the change of
   the exponential's base, and the division by the sum of the exponentials taken inside the weighted sum. -/
module

public import Idealize.ShloMosaic.PureOps
public import Idealize.ShloMosaic.PureOps.Ideal

@[expose] public section

noncomputable section

namespace Cert.Attn

open Idealize.ShloMosaic

/-- One over the root of three times the coordinates of a head. -/
def ssc : ℝ := (Real.sqrt 288)⁻¹
/-- One over the natural logarithm of two. -/
def il2 : ℝ := (Real.log 2)⁻¹

theorem ssc_nonneg : 0 ≤ ssc := inv_nonneg.mpr (Real.sqrt_nonneg _)
theorem il2_pos : 0 < il2 := inv_pos.mpr (Real.log_pos (by norm_num))

/-- A real factor that is not negative distributes over a sum of extended reals. -/
theorem add_mul_coe (a b : EReal) {r : ℝ} (hr : 0 ≤ r) : (a + b) * (r : EReal) = a * r + b * r :=
  EReal.right_distrib_of_nonneg_of_ne_top (by exact_mod_cast hr) (EReal.coe_ne_top r) a b

theorem sub_mul_coe (a b : EReal) {r : ℝ} (hr : 0 ≤ r) : (a - b) * (r : EReal) = a * r - b * r := by
  rw [sub_eq_add_neg, add_mul_coe _ _ hr, EReal.neg_mul, ← sub_eq_add_neg]

theorem sum_mul_coe {ι : Type} (s : Finset ι) (f : ι → EReal) {r : ℝ} (hr : 0 ≤ r) :
    (∑ x ∈ s, f x) * (r : EReal) = ∑ x ∈ s, f x * r := by
  classical
  induction s using Finset.induction_on with
  | empty => simp
  | insert a s h ih => rw [Finset.sum_insert h, Finset.sum_insert h, add_mul_coe _ _ hr, ih]

/-- The kernel's score is the reference's with the exponential's base changed. -/
theorem score_eq (cc c p ks krs qrs : EReal) {qs : ℝ} (hq : 0 ≤ qs) :
    (cc * ks + c * krs) * ((qs : EReal) * ((il2 * ssc : ℝ) : EReal)) + p * qrs * (ks * ((il2 * ssc : ℝ) : EReal))
      = ((cc * qs * ks + c * qs * krs) + p * ks * qrs) * (ssc : EReal) * (il2 : EReal) := by
  have h2 : (0 : ℝ) ≤ il2 * ssc := mul_nonneg il2_pos.le ssc_nonneg
  have e1 : (cc * ks + c * krs) * ((qs : EReal) * ((il2 * ssc : ℝ) : EReal))
      = (cc * qs * ks + c * qs * krs) * ((il2 * ssc : ℝ) : EReal) := by
    rw [← mul_assoc, add_mul_coe _ _ hq, mul_right_comm cc, mul_right_comm c]
  have e2 : p * qrs * (ks * ((il2 * ssc : ℝ) : EReal)) = p * ks * qrs * ((il2 * ssc : ℝ) : EReal) := by
    rw [← mul_assoc, mul_right_comm p]
  have e3 : (ssc : EReal) * (il2 : EReal) = ((il2 * ssc : ℝ) : EReal) := by rw [← EReal.coe_mul, mul_comm]
  rw [e1, e2, mul_assoc _ (ssc : EReal), e3]
  simp only [add_mul_coe _ _ h2]

theorem iSup_mul_coe (f : Fin 512 → EReal) {r : ℝ} (hr : 0 < r) : ⨆ x, f x * (r : EReal) = (⨆ x, f x) * r := by
  have h0 : (0 : EReal) ≤ r := by exact_mod_cast hr.le
  apply le_antisymm
  · exact iSup_le fun x => mul_le_mul_of_nonneg_right (le_iSup f x) h0
  · obtain ⟨x, hx⟩ := exists_eq_ciSup_of_finite (f := f)
    rw [← hx]
    exact le_iSup (fun x => f x * (r : EReal)) x

/-- The exponential of base two at a number times `1 / log 2`. -/
theorem exp2_il2 (z : EReal) : Ideal.exp2 (z * (il2 : EReal)) = Ideal.exp z := by
  induction z with
  | bot => rw [EReal.bot_mul_coe_of_pos il2_pos]; rfl
  | top => rw [EReal.top_mul_coe_of_pos il2_pos]; rfl
  | coe z =>
    rw [← EReal.coe_mul]
    show ((Real.rpow 2 (z * il2) : ℝ) : EReal) = (Real.exp z : EReal)
    congr 1
    show (2 : ℝ) ^ (z * il2) = _
    rw [Real.rpow_def_of_pos (by norm_num)]
    congr 1
    have : Real.log 2 ≠ 0 := (Real.log_pos (by norm_num)).ne'
    unfold il2
    field_simp

theorem e_eq (s : Fin 512 → EReal) (x : Fin 512) :
    Ideal.exp2 (s x * (il2 : EReal) - ⨆ x, s x * (il2 : EReal)) = Ideal.exp (s x - ⨆ x, s x) := by
  rw [iSup_mul_coe _ il2_pos, ← sub_mul_coe _ _ il2_pos.le, exp2_il2]

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- Either every exponential of a row is zero, or their sum is a positive real. -/
theorem den_cases (s : Fin 512 → EReal) :
    (∀ x, Ideal.exp (s x - ⨆ x, s x) = 0) ∨ ∃ r : ℝ, 0 < r ∧ ∑ x, Ideal.exp (s x - ⨆ x, s x) = (r : EReal) := by
  obtain ⟨x0, h0⟩ := exists_eq_ciSup_of_finite (f := s)
  generalize hM : (⨆ x, s x) = M at h0 ⊢
  have hle : ∀ x, s x ≤ M := fun x => hM ▸ le_iSup s x
  induction M with
  | bot => left; intro x; rw [le_bot_iff.mp (hle x)]; rfl
  | top => left; intro x; rw [EReal.sub_top]; rfl
  | coe M =>
    right
    have he : ∀ x, ∃ r : ℝ, 0 ≤ r ∧ Ideal.exp (s x - (M : EReal)) = (r : EReal) := by
      intro x
      have := hle x
      generalize s x = y at this
      induction y with
      | bot => exact ⟨0, le_refl _, rfl⟩
      | top => exact absurd this (by simp)
      | coe y => exact ⟨Real.exp (y - M), (Real.exp_pos _).le, by rw [← EReal.coe_sub]; rfl⟩
    choose f hf hfe using he
    refine ⟨∑ x, f x, ?_, ?_⟩
    · refine Finset.sum_pos' (fun x _ => hf x) ⟨x0, Finset.mem_univ _, ?_⟩
      have := hfe x0
      rw [h0, ← EReal.coe_sub, sub_self] at this
      have h1 : f x0 = Real.exp 0 := by
        have h2 : ((Real.exp 0 : ℝ) : EReal) = (f x0 : EReal) := this
        exact (EReal.coe_eq_coe_iff.mp h2).symm
      rw [h1]; exact Real.exp_pos _
    · rw [← coe_sum]; exact Finset.sum_congr rfl fun x _ => hfe x

/-- The softmax of a row: dividing the weighted sum, or each weight. -/
theorem row_eq (s v vs : Fin 512 → EReal) :
    Ideal.div (∑ x, v x * (Ideal.exp (s x - ⨆ x, s x) * vs x)) (∑ x, Ideal.exp (s x - ⨆ x, s x))
      = if 0 < ∑ x, Ideal.exp (s x - ⨆ x, s x) then
          ∑ x, v x * (Ideal.div (Ideal.exp (s x - ⨆ x, s x)) (∑ x, Ideal.exp (s x - ⨆ x, s x)) * vs x)
        else ⊥ := by
  rcases den_cases s with h | ⟨r, hr, h⟩
  · simp only [h, zero_mul, mul_zero, Finset.sum_const_zero, lt_irrefl, if_false]
    simp [Ideal.div]
  · rw [h, if_pos (by exact_mod_cast hr)]
    have hr0 : (r : EReal) ≠ 0 := by exact_mod_cast hr.ne'
    simp only [Ideal.div, if_neg hr0, ← EReal.coe_inv]
    rw [sum_mul_coe _ _ (inv_nonneg.mpr hr.le)]
    refine Finset.sum_congr rfl fun x _ => ?_
    rw [mul_assoc, mul_right_comm (Ideal.exp _)]

theorem fold_max (f : Fin 512 → EReal) : Finset.fold max (⊥ : EReal) f Finset.univ = ⨆ x, f x :=
  Finset.sup_univ_eq_iSup f

theorem bot_mul_il2 : (⊥ : EReal) * (il2 : EReal) = ⊥ := EReal.bot_mul_coe_of_pos il2_pos

/-- The whole row: the kernel's scores `sk` are the reference's `sr` times `1 / log 2`. -/
theorem row (sk sr v vs : Fin 512 → EReal) (hs : ∀ x, sk x = sr x * (il2 : EReal)) :
    Ideal.div (∑ x, v x * (Ideal.exp2 (sk x - ⨆ x, sk x) * vs x)) (∑ x, Ideal.exp2 (sk x - ⨆ x, sk x))
      = if 0 < ∑ x, Ideal.exp (sr x - ⨆ x, sr x) then
          ∑ x, v x * (Ideal.div (Ideal.exp (sr x - ⨆ x, sr x)) (∑ x, Ideal.exp (sr x - ⨆ x, sr x)) * vs x)
        else ⊥ := by
  rw [← row_eq]
  simp only [hs, e_eq]

/-! ## The arrays of the attention -/

/-- What the attention reads, as functions of their axes: batch, position, head, coordinate. -/
structure Args where
  q : Fin 4 → Fin 512 → Fin 20 → Fin 96 → EReal
  k : Fin 4 → Fin 512 → Fin 20 → Fin 96 → EReal
  v : Fin 4 → Fin 512 → Fin 20 → Fin 96 → EReal
  qs : Fin 4 → Fin 512 → Fin 20 → EReal
  ks : Fin 4 → Fin 512 → Fin 20 → EReal
  vs : Fin 4 → Fin 512 → Fin 20 → EReal
  kr : Fin 256 → Fin 20 → Fin 96 → EReal
  qr : Fin 256 → Fin 20 → Fin 96 → EReal
  krs : Fin 256 → Fin 20 → EReal
  qrs : Fin 256 → Fin 20 → EReal
  len : Fin 4 → BitVec 32

/-- The row of a table for the distance of `i` and `j`. -/
def rIdx (i j : Fin 512) : Fin 256 := ⟨min (i.val + 128 - j.val) 255, by omega⟩

/-- The score of query `i` and key `j`, before its scale. -/
def rawR (A : Args) (b : Fin 4) (h : Fin 20) (i j : Fin 512) : EReal :=
  (∑ x : Fin 96, A.q b i h x * A.k b j h x) * A.qs b i h * A.ks b j h
    + (∑ x : Fin 96, A.kr (rIdx i j) h x * A.q b i h x) * A.qs b i h * A.krs (rIdx i j) h
    + (∑ x : Fin 96, A.qr (rIdx j i) h x * A.k b j h x) * A.ks b j h * A.qrs (rIdx j i) h

/-- The masked score, with the scale `sc`. -/
def scoreR (A : Args) (sc : EReal) (b : Fin 4) (h : Fin 20) (i j : Fin 512) : EReal :=
  Scalar.select (IntOp.cmpi CmpIPredicate.slt (BitVec.ofNat 32 j.val) (A.len b)) (rawR A b h i j * sc)
    (Ideal.ofBits .f32 0xFF800000#32)

/-- The attention's result from the scores `s` of a row. -/
def outR (A : Args) (s : Fin 512 → EReal) (b : Fin 4) (h : Fin 20) (d : Fin 96) : EReal :=
  if 0 < ∑ j, Ideal.exp (s j - Finset.fold max (Ideal.ofBits .f32 0xFF800000#32) s Finset.univ) then
    ∑ j, A.v b j h d
      * (Ideal.div (Ideal.exp (s j - Finset.fold max (Ideal.ofBits .f32 0xFF800000#32) s Finset.univ))
          (∑ j, Ideal.exp (s j - Finset.fold max (Ideal.ofBits .f32 0xFF800000#32) s Finset.univ))
        * A.vs b j h)
  else Ideal.ofBits .f32 0x7FC00000#32

end Cert.Attn
-- ==== Proof.PI.Blocks.lean ====
/- The blocks the steps of `KernelIdeal` work on, entry by entry, as entries of the arguments. -/
module

public import proofs.«01_k».proof.Proof.PI.Runs
public import proofs.«01_k».proof.Proof.Math
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Hand

open Cert.KernelIdeal Cert.KernelIdeal.Gen
open Cert.Attn
open Idealize.ShloMosaic Idealize.ShloMosaic.TcCoe Idealize.ShloMosaic.Tactic

variable (m : (ℓ : Loc nD τ sig) → Buf (Elt Ideal) ℓ)

/-- The sequence step `t` works on. -/
def bT (t : Fin grid0.N) : Fin 4 := grid0.coords t 0
/-- Head `h` of the group of heads of step `t`. -/
def hT (t : Fin grid0.N) (h : Fin 4) : Fin 20 := ⟨4 * (grid0.coords t 1).val + h.val, by
  have : (grid0.coords t 1).val < 5 := (grid0.coords t 1).isLt
  omega⟩

/-- The arguments, as functions of their axes. -/
def argsK (c : Dev nD) : Args where
  q b i h d := (m ((c.tc : Thread nD τ).loc main_arg0) : FVec Ideal S4x512x20x96 .fp8e4m3) (ix4 b i h d)
  k b i h d := (m ((c.tc : Thread nD τ).loc main_arg1) : FVec Ideal S4x512x20x96 .fp8e4m3) (ix4 b i h d)
  v b i h d := (m ((c.tc : Thread nD τ).loc main_arg2) : FVec Ideal S4x512x20x96 .fp8e4m3) (ix4 b i h d)
  qs b i h := (m ((c.tc : Thread nD τ).loc main_arg3) : FVec Ideal S4x512x20 .f32) (ix3 b i h)
  ks b i h := (m ((c.tc : Thread nD τ).loc main_arg4) : FVec Ideal S4x512x20 .f32) (ix3 b i h)
  vs b i h := (m ((c.tc : Thread nD τ).loc main_arg5) : FVec Ideal S4x512x20 .f32) (ix3 b i h)
  kr t h d := (m ((c.tc : Thread nD τ).loc main_arg6) : FVec Ideal S256x20x96 .fp8e4m3) (ix3 t h d)
  qr t h d := (m ((c.tc : Thread nD τ).loc main_arg7) : FVec Ideal S256x20x96 .fp8e4m3) (ix3 t h d)
  krs t h := (m ((c.tc : Thread nD τ).loc main_arg8) : FVec Ideal S256x20 .f32) (ix2 t h)
  qrs t h := (m ((c.tc : Thread nD τ).loc main_arg9) : FVec Ideal S256x20 .f32) (ix2 t h)
  len b := (m ((c.tc : Thread nD τ).loc main_arg10) : IVec S4 32) (ix1 b)

theorem iblk0 (hO : Ok m) (c : Dev nD) (t : Fin grid0.N) (h : Fin 4) (i : Fin 512) (d : Fin 96) :
    (iblk m hO c 0 t : Vec Ideal S1x4x512x96 .fp8e4m3) (ix4 0 h i d) = (V m c main_v0 : FVec Ideal S4x20x512x96 .fp8e4m3) (ix4 (bT t) (hT t h) i d) := by
  unfold iblk
  refine congrArg (V m c main_v0 : FVec Ideal S4x20x512x96 .fp8e4m3) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 4 + 1 * h.val = 4 * (grid0.coords t 1).val + h.val
    rw [BitVec.toNat_ofNat]; omega
  · show 0 * 512 + 1 * i.val = i.val; omega
  · show 0 * 96 + 1 * d.val = d.val; omega

theorem iblk1 (hO : Ok m) (c : Dev nD) (t : Fin grid0.N) (h : Fin 4) (i : Fin 512) (d : Fin 96) :
    (iblk m hO c 1 t : Vec Ideal S1x4x512x96 .fp8e4m3) (ix4 0 h i d) = (V m c main_v1 : FVec Ideal S4x20x512x96 .fp8e4m3) (ix4 (bT t) (hT t h) i d) := by
  unfold iblk
  refine congrArg (V m c main_v1 : FVec Ideal S4x20x512x96 .fp8e4m3) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 4 + 1 * h.val = 4 * (grid0.coords t 1).val + h.val
    rw [BitVec.toNat_ofNat]; omega
  · show 0 * 512 + 1 * i.val = i.val; omega
  · show 0 * 96 + 1 * d.val = d.val; omega

theorem iblk2 (hO : Ok m) (c : Dev nD) (t : Fin grid0.N) (h : Fin 4) (d : Fin 96) (i : Fin 512) :
    (iblk m hO c 2 t : Vec Ideal S1x4x96x512 .fp8e4m3) (ix4 0 h d i) = (V m c main_v2 : FVec Ideal S4x20x96x512 .fp8e4m3) (ix4 (bT t) (hT t h) d i) := by
  unfold iblk
  refine congrArg (V m c main_v2 : FVec Ideal S4x20x96x512 .fp8e4m3) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 4 + 1 * h.val = 4 * (grid0.coords t 1).val + h.val
    rw [BitVec.toNat_ofNat]; omega
  · show 0 * 96 + 1 * d.val = d.val; omega
  · show 0 * 512 + 1 * i.val = i.val; omega

theorem iblk3 (hO : Ok m) (c : Dev nD) (t : Fin grid0.N) (h : Fin 4) (r : Fin 256) (d : Fin 96) :
    (iblk m hO c 3 t : Vec Ideal S4x256x96 .fp8e4m3) (ix3 h r d) = (V m c main_v4 : FVec Ideal S20x256x96 .fp8e4m3) (ix3 (hT t h) r d) := by
  unfold iblk
  refine congrArg (V m c main_v4 : FVec Ideal S20x256x96 .fp8e4m3) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 1).val).toNat * 4 + 1 * h.val = 4 * (grid0.coords t 1).val + h.val
    rw [BitVec.toNat_ofNat]; omega
  · show 0 * 256 + 1 * r.val = r.val; omega
  · show 0 * 96 + 1 * d.val = d.val; omega

theorem iblk4 (hO : Ok m) (c : Dev nD) (t : Fin grid0.N) (h : Fin 4) (r : Fin 256) (d : Fin 96) :
    (iblk m hO c 4 t : Vec Ideal S4x256x96 .fp8e4m3) (ix3 h r d) = (V m c main_v6 : FVec Ideal S20x256x96 .fp8e4m3) (ix3 (hT t h) r d) := by
  unfold iblk
  refine congrArg (V m c main_v6 : FVec Ideal S20x256x96 .fp8e4m3) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 1).val).toNat * 4 + 1 * h.val = 4 * (grid0.coords t 1).val + h.val
    rw [BitVec.toNat_ofNat]; omega
  · show 0 * 256 + 1 * r.val = r.val; omega
  · show 0 * 96 + 1 * d.val = d.val; omega

theorem iblk5 (hO : Ok m) (c : Dev nD) (t : Fin grid0.N) (h : Fin 4) (r : Fin 256) :
    (iblk m hO c 5 t : Vec Ideal S4x1x256 .f32) (ix3 h 0 r) = (V m c main_v9 : FVec Ideal S20x1x256 .f32) (ix3 (hT t h) 0 r) := by
  unfold iblk
  refine congrArg (V m c main_v9 : FVec Ideal S20x1x256 .f32) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 1).val).toNat * 4 + 1 * h.val = 4 * (grid0.coords t 1).val + h.val
    rw [BitVec.toNat_ofNat]; omega
  · show 0 * 1 + 1 * 0 = 0; omega
  · show 0 * 256 + 1 * r.val = r.val; omega

theorem iblk6 (hO : Ok m) (c : Dev nD) (t : Fin grid0.N) (h : Fin 4) (r : Fin 256) :
    (iblk m hO c 6 t : Vec Ideal S4x1x256 .f32) (ix3 h 0 r) = (V m c main_v12 : FVec Ideal S20x1x256 .f32) (ix3 (hT t h) 0 r) := by
  unfold iblk
  refine congrArg (V m c main_v12 : FVec Ideal S20x1x256 .f32) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 1).val).toNat * 4 + 1 * h.val = 4 * (grid0.coords t 1).val + h.val
    rw [BitVec.toNat_ofNat]; omega
  · show 0 * 1 + 1 * 0 = 0; omega
  · show 0 * 256 + 1 * r.val = r.val; omega

theorem iblk7 (hO : Ok m) (c : Dev nD) (t : Fin grid0.N) (h : Fin 4) (i : Fin 512) :
    (iblk m hO c 7 t : Vec Ideal S1x1x4x512 .f32) (ix4 0 0 h i) = (V m c main_v14 : FVec Ideal S4x5x4x512 .f32) (ix4 (bT t) (grid0.coords t 1) h i) := by
  unfold iblk
  refine congrArg (V m c main_v14 : FVec Ideal S4x5x4x512 .f32) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 1 + 1 * 0 = (grid0.coords t 1).val
    rw [BitVec.toNat_ofNat]; omega
  · show 0 * 4 + 1 * h.val = h.val; omega
  · show 0 * 512 + 1 * i.val = i.val; omega

theorem iblk8 (hO : Ok m) (c : Dev nD) (t : Fin grid0.N) (i : Fin 512) (x : Fin 8) :
    (iblk m hO c 8 t : Vec Ideal S1x1x512x8 .f32) (ix4 0 0 i x) = (V m c main_v18 : FVec Ideal S4x5x512x8 .f32) (ix4 (bT t) (grid0.coords t 1) i x) := by
  unfold iblk
  refine congrArg (V m c main_v18 : FVec Ideal S4x5x512x8 .f32) (funext fun a => Fin.ext ?_)
  have hb : (grid0.coords t 0).val < 4 := (grid0.coords t 0).isLt
  have hg : (grid0.coords t 1).val < 5 := (grid0.coords t 1).isLt
  fin_cases a
  · show (BitVec.ofNat 32 (grid0.coords t 0).val).toNat * 1 + 1 * 0 = (grid0.coords t 0).val
    rw [BitVec.toNat_ofNat]; omega
  · show (BitVec.ofNat 32 (grid0.coords t 1).val).toNat * 1 + 1 * 0 = (grid0.coords t 1).val
    rw [BitVec.toNat_ofNat]; omega
  · show 0 * 512 + 1 * i.val = i.val; omega
  · show 0 * 8 + 1 * x.val = x.val; omega

theorem v0_at (c : Dev nD) (b : Fin 4) (h : Fin 20) (i : Fin 512) (d : Fin 96) :
    (V m c main_v0 : FVec Ideal S4x20x512x96 .fp8e4m3) (ix4 b h i d)
      = (argsK m c).q b i h d := by
  unfold V
  after_reads_at
  rfl

theorem v1_at (c : Dev nD) (b : Fin 4) (h : Fin 20) (i : Fin 512) (d : Fin 96) :
    (V m c main_v1 : FVec Ideal S4x20x512x96 .fp8e4m3) (ix4 b h i d)
      = (argsK m c).k b i h d := by
  unfold V
  after_reads_at
  rfl

theorem v2_at (c : Dev nD) (b : Fin 4) (h : Fin 20) (i : Fin 512) (d : Fin 96) :
    (V m c main_v2 : FVec Ideal S4x20x96x512 .fp8e4m3) (ix4 b h d i)
      = (argsK m c).v b i h d := by
  unfold V
  after_reads_at
  rfl

theorem rev_eq (t : Fin 256) : t.rev = ⟨255 - t.val, by omega⟩ := Fin.ext (by rw [Fin.val_rev]; show 256 - (t.val + 1) = 255 - t.val; omega)

theorem v4_at (c : Dev nD) (h : Fin 20) (t : Fin 256) (d : Fin 96) :
    (V m c main_v4 : FVec Ideal S20x256x96 .fp8e4m3) (ix3 h t d)
      = (argsK m c).kr ⟨255 - t.val, by omega⟩ h d := by
  unfold V
  after_reads_at
  exact congrArg (fun x => (argsK m c).kr x h d) (rev_eq t)

theorem v6_at (c : Dev nD) (h : Fin 20) (t : Fin 256) (d : Fin 96) :
    (V m c main_v6 : FVec Ideal S20x256x96 .fp8e4m3) (ix3 h t d)
      = (argsK m c).qr ⟨255 - t.val, by omega⟩ h d := by
  unfold V
  after_reads_at
  exact congrArg (fun x => (argsK m c).qr x h d) (rev_eq t)

theorem v9_at (c : Dev nD) (h : Fin 20) (t : Fin 256) :
    (V m c main_v9 : FVec Ideal S20x1x256 .f32) (ix3 h 0 t)
      = (argsK m c).krs ⟨255 - t.val, by omega⟩ h := by
  unfold V
  after_reads_at
  exact congrArg (fun x => (argsK m c).krs x h) (rev_eq t)

theorem v12_at (c : Dev nD) (h : Fin 20) (t : Fin 256) :
    (V m c main_v12 : FVec Ideal S20x1x256 .f32) (ix3 h 0 t)
      = (argsK m c).qrs ⟨255 - t.val, by omega⟩ h := by
  unfold V
  after_reads_at
  exact congrArg (fun x => (argsK m c).qrs x h) (rev_eq t)

theorem v14_at (c : Dev nD) (b : Fin 4) (g : Fin 5) (h : Fin 4) (i : Fin 512) :
    (V m c main_v14 : FVec Ideal S4x5x4x512 .f32) (ix4 b g h i)
      = (argsK m c).qs b i ⟨4 * g.val + h.val, by omega⟩ := by
  unfold V
  after_reads_at
  exact congrArg (fun x => (argsK m c).qs b i x) (Fin.ext (by show g.val * 4 + h.val = 4 * g.val + h.val; omega))

theorem v18_at (c : Dev nD) (b : Fin 4) (g : Fin 5) (h : Fin 4) (i : Fin 512) :
    (V m c main_v18 : FVec Ideal S4x5x512x8 .f32) (ix4 b g i ⟨h.val, by omega⟩)
      = (argsK m c).ks b i ⟨4 * g.val + h.val, by omega⟩ := by
  unfold V
  after_reads_at
  after_reads_at
  exact congrArg (fun x => (argsK m c).ks b i x) (Fin.ext (by show g.val * 4 + h.val = 4 * g.val + h.val; omega))

theorem v18_at4 (c : Dev nD) (b : Fin 4) (g : Fin 5) (h : Fin 4) (i : Fin 512) :
    (V m c main_v18 : FVec Ideal S4x5x512x8 .f32) (ix4 b g i ⟨4 + h.val, by omega⟩)
      = (argsK m c).vs b i ⟨4 * g.val + h.val, by omega⟩ := by
  unfold V
  after_reads_at
  after_reads_at
  exact congrArg (fun x => (argsK m c).vs b i x) (Fin.ext (by show g.val * 4 + h.val = 4 * g.val + h.val; omega))

end Cert.KernelIdeal.Hand
-- ==== Proof.PI.Match.lean ====
/- One head: the kernel's row is the reference's, when the tiles hold the arguments, the lengths are in range and the
   query scales are reals that are not negative. -/
module

public import proofs.«01_k».proof.Proof.PI.HeadSum
public import proofs.«01_k».proof.Proof.Math
public import Idealize.ShloMosaic.Lib.StableHlo.Predicate

@[expose] public section

set_option maxRecDepth 16384

noncomputable section

namespace Cert.KernelIdeal.Hand

open Cert.Attn
open Idealize.ShloMosaic Idealize.ShloMosaic.TcCoe

/-- The tiles `T` hold what the arguments `A` say of sequence `b` and head `h`; the tables are reversed. -/
structure TileOf (A : Args) (b : Fin 4) (h : Fin 20) (T : Tiles Ideal) : Prop where
  q : ∀ i d, T.q (ix2 i d) = A.q b i h d
  k : ∀ i d, T.k (ix2 i d) = A.k b i h d
  vt : ∀ d i, T.vt (ix2 d i) = A.v b i h d
  kr : ∀ (t : Fin 256) d, T.kr (ix2 t d) = A.kr ⟨255 - t.val, by omega⟩ h d
  qr : ∀ (t : Fin 256) d, T.qr (ix2 t d) = A.qr ⟨255 - t.val, by omega⟩ h d
  krs : ∀ t : Fin 256, T.krs (ix2 0 t) = A.krs ⟨255 - t.val, by omega⟩ h
  qrs : ∀ t : Fin 256, T.qrs (ix2 0 t) = A.qrs ⟨255 - t.val, by omega⟩ h
  qs : ∀ i, T.qs (ix2 0 i) = A.qs b i h
  ks : ∀ i, T.ks (ix2 i 0) = A.ks b i h
  vs : ∀ i, T.vs (ix2 i 0) = A.vs b i h
  len : T.slen = A.len b

theorem cIdx_rIdx (x y : Fin 512) : (⟨255 - (cIdx x y).val, by omega⟩ : Fin 256) = rIdx y x := by
  apply Fin.ext
  show 255 - min (127 + x.val - y.val) 255 = min (y.val + 128 - x.val) 255
  omega

theorem qscI_eq : qscI = ((il2 * ssc : ℝ) : EReal) := rfl

theorem ninf_bits : Ideal.ofBits .f32 0xFF800000#32 = (⊥ : EReal) := by simp [Ideal.ofBits, Ideal.ieee]
theorem nan_bits : Ideal.ofBits .f32 0x7FC00000#32 = (⊥ : EReal) := by simp [Ideal.ofBits, Ideal.ieee]

variable {A : Args} {b : Fin 4} {h : Fin 20} {T : Tiles Ideal}

theorem scoreK_eq (H : TileOf A b h T) (x y : Fin 512) (hq : ∃ r : ℝ, 0 ≤ r ∧ A.qs b y h = (r : EReal)) :
    scoreK T x y = rawR A b h y x * (ssc : EReal) * (il2 : EReal) := by
  obtain ⟨r, hr, hqs⟩ := hq
  have e1 : ccS T x y = ∑ d : Fin 96, A.q b y h d * A.k b x h d :=
    Finset.sum_congr rfl fun d _ => by rw [H.k, H.q, mul_comm]
  have e2 : (∑ d : Fin 96, T.q (ix2 y d) * T.kr (ix2 (cIdx x y) d) : EReal) = ∑ d : Fin 96, A.kr (rIdx y x) h d * A.q b y h d :=
    Finset.sum_congr rfl fun d _ => by rw [H.q, H.kr, cIdx_rIdx, mul_comm]
  have e3 : (∑ d : Fin 96, T.k (ix2 x d) * T.qr (ix2 (cIdx y x) d) : EReal) = ∑ d : Fin 96, A.qr (rIdx x y) h d * A.k b x h d :=
    Finset.sum_congr rfl fun d _ => by rw [H.k, H.qr, cIdx_rIdx, mul_comm]
  unfold scoreK rawR cS pS
  rw [e1, e2, e3, H.ks, H.qs, H.krs, H.qrs, cIdx_rIdx, cIdx_rIdx, qscI_eq, hqs]
  exact score_eq _ _ _ _ _ _ hr

theorem scoreM_eq (H : TileOf A b h T) (hl : (A.len b).toNat ≤ 512) (x y : Fin 512)
    (hq : ∃ r : ℝ, 0 ≤ r ∧ A.qs b y h = (r : EReal)) :
    scoreM T x y = scoreR A (ssc : EReal) b h y x * (il2 : EReal) := by
  unfold scoreM scoreR
  have hx := x.isLt
  have hiff : IntOp.cmpi CmpIPredicate.slt (BitVec.ofNat 32 x.val) (A.len b) = 1#1 ↔ x.val < (A.len b).toNat := by
    rw [StableHlo.Predicate.slt_iff_toNat (by rw [BitVec.toNat_ofNat]; omega) (by omega), BitVec.toNat_ofNat,
      Nat.mod_eq_of_lt (by omega)]
  rw [H.len, ninf_bits]
  by_cases hc : x.val < (A.len b).toNat
  · rw [if_pos hc, hiff.mpr hc, scoreK_eq H x y hq]; rfl
  · have h0 : IntOp.cmpi CmpIPredicate.slt (BitVec.ofNat 32 x.val) (A.len b) = 0#1 := by
      rcases BitVec.eq_zero_or_eq_one (IntOp.cmpi CmpIPredicate.slt (BitVec.ofNat 32 x.val) (A.len b)) with h | h
      · exact h
      · exact absurd (hiff.mp h) hc
    rw [if_neg hc, h0]
    exact bot_mul_il2.symm

theorem outK_eq (H : TileOf A b h T) (hl : (A.len b).toNat ≤ 512) (y : Fin 512) (d : Fin 96)
    (hq : ∃ r : ℝ, 0 ≤ r ∧ A.qs b y h = (r : EReal)) :
    outK T d y = outR A (scoreR A (ssc : EReal) b h y) b h d := by
  have hr := row (fun x => scoreM T x y) (fun x => scoreR A (ssc : EReal) b h y x) (fun x => A.v b x h d) (fun x => A.vs b x h)
    (fun x => scoreM_eq H hl x y hq)
  unfold outK outR eK maxK
  simp only [H.vt, H.vs]
  have e : Finset.fold max (Ideal.ofBits .f32 0xFF800000#32) (scoreR A (ssc : EReal) b h y) Finset.univ
      = ⨆ x, scoreR A (ssc : EReal) b h y x := by
    rw [ninf_bits]
    exact Cert.Attn.fold_max (scoreR A (ssc : EReal) b h y)
  rw [e, nan_bits]
  exact hr

end Cert.KernelIdeal.Hand

end
-- ==== Proof.PI.Result.lean ====
/- The array of results of `KernelIdeal`, entry by entry. -/
module

public import proofs.«01_k».proof.Proof.PI.Value
public import proofs.«01_k».proof.Proof.PI.Blocks
public import proofs.«01_k».proof.Proof.PI.Match
public import Idealize.ShloMosaic.Lib.Pipeline.ValueKit

@[expose] public section

set_option maxRecDepth 16384

noncomputable section

namespace Cert.KernelIdeal.Hand

open Cert.KernelIdeal Cert.KernelIdeal.Gen
open Cert.Attn
open Idealize.ShloMosaic Idealize.ShloMosaic.TcCoe Idealize.ShloMosaic.Tactic
open Idealize.ShloMosaic.Pipeline (Dat Cfg Window)
open Val

variable (m : (ℓ : Loc nD τ sig) → Buf (Elt Ideal) ℓ) (ρ : Dev nD → PrngReg)

theorem word_eq (c : Dev nD) (t : Fin grid0.N) : word m t = (argsK m c).len (bT t) := by
  obtain rfl : c = 0 := Subsingleton.elim _ _
  have hb : (grid0.coords t 0).val < 4 := (grid0.coords t 0).isLt
  have e : tbl m 0 = (m (((0 : Dev nD).tc : Thread nD τ).loc main_arg10) : IVec S4 32) := V_main_arg10 m 0
  show (tbl m 0 : IVec S4 32) _ = (m (((0 : Dev nD).tc : Thread nD τ).loc main_arg10) : IVec S4 32) (ix1 (bT t))
  rw [e]
  refine congrArg (m (((0 : Dev nD).tc : Thread nD τ).loc main_arg10) : IVec S4 32) (funext fun a => Fin.ext ?_)
  fin_cases a
  show (BitVec.ofNat 32 (grid0.coords t 0).val).toNat + 1 * 0 = (grid0.coords t 0).val
  rw [BitVec.toNat_ofNat]; omega

variable {A : Args} {b : Fin 4} {hh : Fin 20}

/-- The tiles of a step hold the arguments when its blocks do. -/
theorem tileOf_blocks (x0 : Vec Ideal S1x4x512x96 .fp8e4m3) (x1 : Vec Ideal S1x4x512x96 .fp8e4m3) (x2 : Vec Ideal S1x4x96x512 .fp8e4m3)
    (x3 : Vec Ideal S4x256x96 .fp8e4m3) (x4 : Vec Ideal S4x256x96 .fp8e4m3) (x5 : Vec Ideal S4x1x256 .f32) (x6 : Vec Ideal S4x1x256 .f32)
    (x7 : Vec Ideal S1x1x4x512 .f32) (x8 : Vec Ideal S1x1x512x8 .f32) (w : BitVec 32) (h : Fin 4)
    (h0 : ∀ i d, x0 (ix4 0 h i d) = A.q b i hh d) (h1 : ∀ i d, x1 (ix4 0 h i d) = A.k b i hh d)
    (h2 : ∀ d i, x2 (ix4 0 h d i) = A.v b i hh d)
    (h3 : ∀ (r : Fin 256) d, x3 (ix3 h r d) = A.kr ⟨255 - r.val, by omega⟩ hh d)
    (h4 : ∀ (r : Fin 256) d, x4 (ix3 h r d) = A.qr ⟨255 - r.val, by omega⟩ hh d)
    (h5 : ∀ r : Fin 256, x5 (ix3 h 0 r) = A.krs ⟨255 - r.val, by omega⟩ hh)
    (h6 : ∀ r : Fin 256, x6 (ix3 h 0 r) = A.qrs ⟨255 - r.val, by omega⟩ hh)
    (h7 : ∀ i, x7 (ix4 0 0 h i) = A.qs b i hh)
    (h8 : ∀ i, x8 (ix4 0 0 i ⟨h.val, by omega⟩) = A.ks b i hh)
    (h9 : ∀ i, x8 (ix4 0 0 i ⟨4 + h.val, by omega⟩) = A.vs b i hh) (hw : w = A.len b) :
    TileOf A b hh (tileB x0 x1 x2 x3 x4 x5 x6 x7 x8 w h) :=
  ⟨h0, h1, h2, h3, h4, h5, h6, h7, h8, h9, hw⟩

theorem tileOf (hO : Ok m) (c : Dev nD) (t : Fin grid0.N) (h : Fin 4) :
    TileOf (argsK m c) (bT t) (hT t h) (tileAt m hO c t h) := by
  unfold tileAt
  refine tileOf_blocks _ _ _ _ _ _ _ _ _ _ h ?_ ?_ ?_ ?_ ?_ ?_ ?_ ?_ ?_ ?_ (word_eq m c t)
  · intro i d; exact (iblk0 m hO c t h i d).trans (v0_at m c _ _ i d)
  · intro i d; exact (iblk1 m hO c t h i d).trans (v1_at m c _ _ i d)
  · intro d i; exact (iblk2 m hO c t h d i).trans (v2_at m c _ _ i d)
  · intro r d; exact (iblk3 m hO c t h r d).trans (v4_at m c _ r d)
  · intro r d; exact (iblk4 m hO c t h r d).trans (v6_at m c _ r d)
  · intro r; exact (iblk5 m hO c t h r).trans (v9_at m c _ r)
  · intro r; exact (iblk6 m hO c t h r).trans (v12_at m c _ r)
  · intro i; exact (iblk7 m hO c t h i).trans (v14_at m c _ _ h i)
  · intro i; exact (iblk8 m hO c t i _).trans (v18_at m c _ _ h i)
  · intro i; exact (iblk8 m hO c t i _).trans (v18_at4 m c _ _ h i)

/-- The lengths are in range and the query scales are reals that are not negative. -/
structure Good (A : Args) : Prop where
  len : ∀ b, 0 < (A.len b).toNat ∧ (A.len b).toNat ≤ 512
  qs : ∀ b i h, ∃ r : ℝ, 0 ≤ r ∧ A.qs b i h = (r : EReal)

/-- The head and the coordinate of a column of the results. -/
def hd (x : Fin 1920) : Fin 20 := ⟨x.val / 96, by omega⟩
def dd (x : Fin 1920) : Fin 96 := ⟨x.val % 96, by omega⟩

/-- The attention of the arguments `A`. -/
def attn (A : Args) : FVec Ideal S4x512x1920 .bf16 := fun j =>
  outR A (scoreR A (ssc : EReal) (j 0) (hd (j 2)) (j 1)) (j 0) (hd (j 2)) (dd (j 2))

theorem covers9 (hO : Ok m) : ((cfgM m hO).win 9).Covers := by
  refine ⟨(by decide : ∀ a : Fin 3, 0 < S1x512x384.size a), fun β => ?_⟩
  have h : ∀ b : Fin 4, ∀ g : Fin 5, ∃ t : Fin grid0.N, (grid0.coords t 0).val = b.val ∧ (grid0.coords t 1).val = g.val := by
    decide +kernel
  have l0 : (β (0 : Fin 3)).val < 4 := by
    have e : ((cfgM m hO).win 9).nblk (0 : Fin 3) = (4 + 1 - 1) / 1 := rfl
    have h := (β (0 : Fin 3)).isLt
    have h' := Nat.lt_of_lt_of_eq h e
    omega
  have l1 : (β (1 : Fin 3)).val < 1 := by
    have e : ((cfgM m hO).win 9).nblk (1 : Fin 3) = (512 + 512 - 1) / 512 := rfl
    have h := (β (1 : Fin 3)).isLt
    have h' := Nat.lt_of_lt_of_eq h e
    omega
  have l2 : (β (2 : Fin 3)).val < 5 := by
    have e : ((cfgM m hO).win 9).nblk (2 : Fin 3) = (1920 + 384 - 1) / 384 := rfl
    have h := (β (2 : Fin 3)).isLt
    have h' := Nat.lt_of_lt_of_eq h e
    omega
  obtain ⟨t, h0, h1⟩ := h ⟨_, l0⟩ ⟨_, l2⟩
  refine ⟨t, flush0_9 (adm m hO) t, fun a => ⟨?_, Or.inl ?_⟩⟩
  · have hb : (grid0.coords t 0).val < 4 := (grid0.coords t 0).isLt
    have hg : (grid0.coords t 1).val < 5 := (grid0.coords t 1).isLt
    revert a
    refine Fin.cases ?_ (Fin.cases ?_ (Fin.cases ?_ (fun a => a.elim0)))
    · show (BitVec.ofNat 32 (grid0.coords t 0).val).toNat = (β (0 : Fin 3)).val
      rw [BitVec.toNat_ofNat, ← h0]; omega
    · show 0 = (β (1 : Fin 3)).val
      omega
    · show (BitVec.ofNat 32 (grid0.coords t 1).val).toNat = (β (2 : Fin 3)).val
      rw [BitVec.toNat_ofNat, ← h1]; omega
  · rfl

theorem block_at (hO : Ok m) (c : Dev nD) (hA : Good (argsK m c)) (t : Fin grid0.N) (y : Fin 512) (z : Fin 384)
    (x : Fin 1920) (hx : x.val = 384 * (grid0.coords t 1).val + z.val) :
    blockV (tileAt m hO c t) (ix3 0 y z) = attn (argsK m c) (ix3 (bT t) y x) := by
  have hz := z.isLt
  have hg : (grid0.coords t 1).val < 5 := (grid0.coords t 1).isLt
  rw [blockV_apply _ y z ⟨z.val / 96, by omega⟩ ⟨z.val % 96, by omega⟩ (by show z.val = 96 * (z.val / 96) + z.val % 96; omega)]
  have e1 : hT t ⟨z.val / 96, by omega⟩ = hd x := Fin.ext (by
    show 4 * (grid0.coords t 1).val + z.val / 96 = x.val / 96
    omega)
  have e2 : (⟨z.val % 96, by omega⟩ : Fin 96) = dd x := Fin.ext (by
    show z.val % 96 = x.val % 96
    omega)
  rw [outK_eq (tileOf m hO c t _) (hA.len _).2 y _ (hA.qs _ _ _), e1, e2]
  rfl

theorem arr9 (hO : Ok m) (c : Dev nD) (hA : Good (argsK m c)) :
    (Val.dats m hO 0 c).arrAt 9 (cfgM m hO).N = attn (argsK m c) := by
  refine (Val.dats m hO 0 c).arrAt_eq_of_covers 9 _ (covers9 m hO) fun t hf y => ?_
  rw [Val.after0_9]
  have hy0 : (y (0 : Fin 3)).val < 1 := (y (0 : Fin 3)).isLt
  have hy1 : (y (1 : Fin 3)).val < 512 := (y (1 : Fin 3)).isLt
  have hy2 : (y (2 : Fin 3)).val < 384 := (y (2 : Fin 3)).isLt
  have hb : (grid0.coords t 0).val < 4 := (grid0.coords t 0).isLt
  have hg : (grid0.coords t 1).val < 5 := (grid0.coords t 1).isLt
  refine Eq.trans ?_ ((block_at m hO c hA t ⟨(y (1 : Fin 3)).val, hy1⟩ ⟨(y (2 : Fin 3)).val, hy2⟩
    ⟨384 * (grid0.coords t 1).val + (y (2 : Fin 3)).val, by omega⟩ rfl).trans ?_)
  · refine congrArg (blockV (tileAt m hO c t)) (funext fun a => Fin.ext ?_)
    fin_cases a
    · show (y (0 : Fin 3)).val = 0; omega
    · rfl
    · rfl
  · refine congrArg (attn (argsK m c)) (funext fun a => Fin.ext ?_)
    fin_cases a
    · show (grid0.coords t 0).val = (BitVec.ofNat 32 (grid0.coords t 0).val).toNat * 1 + 1 * (y (0 : Fin 3)).val
      rw [BitVec.toNat_ofNat]; omega
    · show (y (1 : Fin 3)).val = 0 * 512 + 1 * (y (1 : Fin 3)).val; omega
    · show 384 * (grid0.coords t 1).val + (y (2 : Fin 3)).val = (BitVec.ofNat 32 (grid0.coords t 1).val).toNat * 384 + 1 * (y (2 : Fin 3)).val
      rw [BitVec.toNat_ofNat]; omega

/-- The run: the results are the attention of the arguments. -/
theorem run_value (hO : Ok m) (hA : ∀ c, Good (argsK m c)) :
    θ_run defs (onTc (τ := τ) (main (F := Ideal))) ⟨m, fun _ => 0, ρ⟩ (fun r => ∀ c : Dev nD,
      r.2.mem ((c.tc : Thread nD τ).loc main_v19) = attn (argsK m c)) :=
  (θ_run defs _ _).mono (fun _ h c => ((h c).1 9).trans (arr9 m hO c (hA c)))
    (Val.run_main m ρ hO fun t => by rw [word_eq m 0 t]; exact (hA 0).len _)

end Cert.KernelIdeal.Hand

end
-- ==== Proof.RI.Ops.lean ====
/- The reference's host operations after the decoding call, as two lines: the one that makes the masked scores, and the one
   that makes the result from them. The gather of a table's rows, read at an index. -/
module

public import proofs.«01_k».proof.Proof.Gen.ReferenceIdeal.Launch
public import Idealize.ShloMosaic.Lib.StableHlo.ReadAt
public import Idealize.ShloMosaic.Lib.Pointwise
public import proofs.«01_k».proof.Proof.Math

@[expose] public section

set_option maxRecDepth 16384

noncomputable section

namespace Cert.ReferenceIdeal.Hand

open Cert.ReferenceIdeal Cert.ReferenceIdeal.Gen
open Idealize.ShloMosaic Idealize.ShloMosaic.TcCoe Cert.Attn

/-- The operations that make the clipped distances and the three terms before their gathers. -/
abbrev opsA : List (HloOp τ sig (Elt Ideal)) := hostOps1 ++ hostOps1_1 ++ hostOps1_2 ++ hostOps1_3
/-- The terms of the scores, and the gathers. -/
abbrev opsB : List (HloOp τ sig (Elt Ideal)) := hostOps1_4 ++ hostOps1_5 ++ hostOps1_6 ++ hostOps1_7 ++ hostOps1_8 ++ hostOps1_9
/-- The softmax and the result. -/
abbrev opsC : List (HloOp τ sig (Elt Ideal)) := hostOps1_10 ++ hostOps1_11 ++ hostOps1_12

/-- A gather along the last axis: row `(b, h, i)` of the operand at the index that `idx` has for `(i, j)`. -/
theorem gather_at {α : Type} (x : S4x20x512x256.Idx → α) (idx : IVec S512x512x1 32) (b : Fin 4) (h : Fin 20) (i j : Fin 512) :
    Host.gather gather_S4x20x512x256_S512x512x1_S4x20x512x512_01_3_2_0_3_2_42011 x idx (ix4 b h i j)
      = x (ix4 b h i ⟨min (idx (ix3 i j 0)).toInt.toNat 255, by omega⟩) := by
  unfold Host.gather
  congr 1
  funext a
  apply Fin.ext
  have hi : ∀ c, (gather_S4x20x512x256_S512x512x1_S4x20x512x512_01_3_2_0_3_2_42011).siIdx (ix4 b h i j) c = ix3 i j 0 := by
    intro c
    funext e
    apply Fin.ext
    fin_cases e
    · rfl
    · rfl
    · have := c.isLt
      show c.val = 0
      have : c.val < 1 := c.isLt
      omega
  fin_cases a
  · show 0 + 0 + b.val = b.val
    omega
  · show 0 + 0 + h.val = h.val
    omega
  · show 0 + i.val + 0 = i.val
    omega
  · show (gather_S4x20x512x256_S512x512x1_S4x20x512x512_01_3_2_0_3_2_42011).start (ix4 b h i j) idx 3 + 0 + 0 = min (idx (ix3 i j 0)).toInt.toNat 255
    unfold GatherDims.start
    rw [dif_pos (by decide), hi]
    rfl

theorem toInt_small (a : ℕ) (ha : a < 2 ^ 31) : (BitVec.ofNat 32 a).toInt = a := by
  rw [BitVec.toInt_eq_toNat_of_lt (by rw [BitVec.toNat_ofNat]; omega), BitVec.toNat_ofNat]; omega

/-- The clipped distance of `i` and `j`, in words. -/
theorem clip_word (i j : Fin 512) : IntOp.minsi 255#32 (IntOp.maxsi 0#32
    (IntOp.addi (IntOp.subi (BitVec.ofNat 32 i.val) (BitVec.ofNat 32 j.val)) 128#32))
    = BitVec.ofNat 32 (min (i.val + 128 - j.val) 255) := by
  have hi := i.isLt; have hj := j.isLt
  have key : IntOp.addi (IntOp.subi (BitVec.ofNat 32 i.val) (BitVec.ofNat 32 j.val)) 128#32
      = BitVec.ofInt 32 ((i.val : Int) + 128 - j.val) := by
    apply BitVec.eq_of_toInt_eq
    simp only [IntOp.addi, IntOp.subi, BitVec.toInt_add, BitVec.toInt_sub, BitVec.toInt_ofInt]
    rw [toInt_small _ (by omega), toInt_small _ (by omega)]
    simp only [Int.bmod_def]
    rw [show (128#32 : BitVec 32).toInt = 128 from rfl]
    omega
  rw [key]
  have h3 : (BitVec.ofInt 32 ((i.val : Int) + 128 - j.val)).toInt = (i.val : Int) + 128 - j.val := by
    rw [BitVec.toInt_ofInt, Int.bmod_def]; omega
  apply BitVec.eq_of_toInt_eq
  rw [toInt_small _ (by omega)]
  simp only [IntOp.minsi, IntOp.maxsi, BitVec.sle_eq_decide, BitVec.slt_eq_decide]
  simp only [h3]
  rw [show (255#32 : BitVec 32).toInt = 255 from rfl, show (0#32 : BitVec 32).toInt = 0 from rfl]
  split_ifs <;> simp_all <;> omega

variable (W : Valuation τ sig (Elt Ideal))

theorem v11_at (i j : Fin 512) : (StableHlo.after opsA W (Proc.devRef .tc main_v11) : IVec S512x512 32) (ix2 i j)
    = BitVec.ofNat 32 (min (i.val + 128 - j.val) 255) := by
  after_reads_at
  exact clip_word i j

theorem v15_at (i j : Fin 512) : (StableHlo.after opsA W (Proc.devRef .tc main_v15) : IVec S512x512 32) (ix2 i j)
    = BitVec.ofNat 32 (min (j.val + 128 - i.val) 255) := by
  after_reads_at
  rw [← clip_word j i]
  show IntOp.minsi 255#32 (IntOp.maxsi 0#32 _) = _
  congr 2
  simp only [IntOp.addi, IntOp.subi, BitVec.neg_sub]
  rw [BitVec.sub_eq_add_neg, BitVec.add_comm (-_)]

theorem v3_at (j : Fin 512) : (StableHlo.after opsA W (Proc.devRef .tc main_v3) : IVec S512 32) (ix1 j) = BitVec.ofNat 32 j.val := by
  after_reads_at

/-- A row of a table at a clipped distance: what the gather's index normalization makes of it. -/
theorem row_word (n : ℕ) : min (Scalar.select (IntOp.cmpi CmpIPredicate.slt (BitVec.ofNat 32 (min n 255)) 0#32)
    (IntOp.addi (BitVec.ofNat 32 (min n 255)) 256#32) (BitVec.ofNat 32 (min n 255))).toInt.toNat 255 = min n 255 := by
  have h0 : ¬ (((min n 255 : ℕ) : Int) < (0#32 : BitVec 32).toInt) := by
    rw [show (0#32 : BitVec 32).toInt = 0 from rfl]; omega
  have h : IntOp.cmpi CmpIPredicate.slt (BitVec.ofNat 32 (min n 255)) 0#32 = 0#1 := by
    simp only [IntOp.cmpi, BitVec.slt_eq_decide, toInt_small (min n 255) (by omega)]
    rw [decide_eq_false h0]; rfl
  rw [h]
  show min (BitVec.ofNat 32 (min n 255)).toInt.toNat 255 = _
  rw [toInt_small _ (by omega)]
  omega

/-- What the lines after the decoding read, as the attention's arrays. -/
def argsW : Args where
  q b i h d := (W (Proc.devRef .tc main_v2_0) : FVec Ideal S4x512x20x96 .f32) (ix4 b i h d)
  k b i h d := (W (Proc.devRef .tc main_v2_1) : FVec Ideal S4x512x20x96 .f32) (ix4 b i h d)
  v b i h d := (W (Proc.devRef .tc main_v2_2) : FVec Ideal S4x512x20x96 .bf16) (ix4 b i h d)
  qs b i h := (W (Proc.devRef .tc main_arg3) : FVec Ideal S4x512x20 .f32) (ix3 b i h)
  ks b i h := (W (Proc.devRef .tc main_arg4) : FVec Ideal S4x512x20 .f32) (ix3 b i h)
  vs b i h := (W (Proc.devRef .tc main_arg5) : FVec Ideal S4x512x20 .f32) (ix3 b i h)
  kr t h d := (W (Proc.devRef .tc main_v2_3) : FVec Ideal S256x20x96 .f32) (ix3 t h d)
  qr t h d := (W (Proc.devRef .tc main_v2_4) : FVec Ideal S256x20x96 .f32) (ix3 t h d)
  krs t h := (W (Proc.devRef .tc main_arg8) : FVec Ideal S256x20 .f32) (ix2 t h)
  qrs t h := (W (Proc.devRef .tc main_arg9) : FVec Ideal S256x20 .f32) (ix2 t h)
  len b := (W (Proc.devRef .tc main_arg10) : IVec S4 32) (ix1 b)

/-- The scores, from contents that hold the clipped distances. -/
theorem v61_at (h3 : ∀ j, (W (Proc.devRef .tc main_v3) : IVec S512 32) (ix1 j) = BitVec.ofNat 32 j.val)
    (h11 : ∀ i j, (W (Proc.devRef .tc main_v11) : IVec S512x512 32) (ix2 i j) = BitVec.ofNat 32 (min (i.val + 128 - j.val) 255))
    (h15 : ∀ i j, (W (Proc.devRef .tc main_v15) : IVec S512x512 32) (ix2 i j) = BitVec.ofNat 32 (min (j.val + 128 - i.val) 255))
    (b : Fin 4) (h : Fin 20) (i j : Fin 512) :
    (StableHlo.after opsB W (Proc.devRef .tc main_v61) : FVec Ideal S4x20x512x512 .f32) (ix4 b h i j)
      = scoreR (argsW W) ((W (Proc.devRef .tc main_v1) : FVec Ideal S_ .f32) ix0) b h i j := by
  after_reads_simp
  all_goals try simp -implicitDefEqProofs only [StableHlo.TRef.toBuf, StableHlo.TRef.ofBuf, cast_cast, cast_eq]
  all_goals clean_types
  pointwise [gather_at]
  simp only [h3, h11, h15, row_word]
  rfl

/-- What the last line reads: the values' scales. -/
theorem v23_at (b : Fin 4) (h : Fin 20) (j : Fin 512) :
    (StableHlo.after opsB W (Proc.devRef .tc main_v23) : FVec Ideal S4x20x1x512 .f32) (ix4 b h 0 j)
      = (W (Proc.devRef .tc main_arg5) : FVec Ideal S4x512x20 .f32) (ix3 b j h) := by
  after_reads_at

/-- The result, from the scores `s`. -/
theorem v81_at (b : Fin 4) (i : Fin 512) (h : Fin 20) (d : Fin 96) (x : Fin 1920) (hx : x.val = 96 * h.val + d.val)
    (s : Fin 512 → EReal) (A : Args)
    (hv : ∀ j, (W (Proc.devRef .tc main_v2_2) : FVec Ideal S4x512x20x96 .bf16) (ix4 b j h d) = A.v b j h d)
    (hvs : ∀ j, (W (Proc.devRef .tc main_v23) : FVec Ideal S4x20x1x512 .f32) (ix4 b h 0 j) = A.vs b j h)
    (hs : ∀ j, (W (Proc.devRef .tc main_v61) : FVec Ideal S4x20x512x512 .f32) (ix4 b h i j) = s j) :
    (StableHlo.after opsC W (Proc.devRef .tc main_v81) : FVec Ideal S4x512x1920 .bf16) (ix3 b i x)
    = outR A s b h d := by
  have e1 : (⟨x.val / 96, by omega⟩ : Fin 20) = h := by apply Fin.ext; dsimp only; omega
  have e2 : (⟨x.val % 96, by omega⟩ : Fin 96) = d := by apply Fin.ext; dsimp only; omega
  after_reads_at
  simp only [e1, e2, hs, hv, hvs]
  rfl

end Cert.ReferenceIdeal.Hand
-- ==== Proof.RI.Value.lean ====
/- The reference's result over the extended reals, as a function of the arguments. -/
module

public import proofs.«01_k».proof.Proof.RI.Ops
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Cert.Attn

section Lines
variable (W : Valuation τ sig (Elt Ideal))

theorem opsA_keep (r : Ref sig .tc) (h : r ∉ hostOps1_W ++ hostOps1_1_W ++ hostOps1_2_W ++ hostOps1_3_W) :
    StableHlo.after opsA W (Proc.devRef .tc r) = W (Proc.devRef .tc r) := by
  simp only [List.mem_append, not_or] at h
  rw [StableHlo.after_append, StableHlo.after_append, StableHlo.after_append,
    StableHlo.after_of_writes_sub hostOps1_3 _ hostOps1_3_writes h.2,
    StableHlo.after_of_writes_sub hostOps1_2 _ hostOps1_2_writes h.1.2,
    StableHlo.after_of_writes_sub hostOps1_1 _ hostOps1_1_writes h.1.1.2,
    StableHlo.after_of_writes_sub hostOps1 _ hostOps1_writes h.1.1.1]

theorem opsB_keep (r : Ref sig .tc) (h : r ∉ hostOps1_4_W ++ hostOps1_5_W ++ hostOps1_6_W ++ hostOps1_7_W ++ hostOps1_8_W ++ hostOps1_9_W) :
    StableHlo.after opsB W (Proc.devRef .tc r) = W (Proc.devRef .tc r) := by
  simp only [List.mem_append, not_or] at h
  rw [StableHlo.after_append, StableHlo.after_append, StableHlo.after_append, StableHlo.after_append, StableHlo.after_append,
    StableHlo.after_of_writes_sub hostOps1_9 _ hostOps1_9_writes h.2,
    StableHlo.after_of_writes_sub hostOps1_8 _ hostOps1_8_writes h.1.2,
    StableHlo.after_of_writes_sub hostOps1_7 _ hostOps1_7_writes h.1.1.2,
    StableHlo.after_of_writes_sub hostOps1_6 _ hostOps1_6_writes h.1.1.1.2,
    StableHlo.after_of_writes_sub hostOps1_5 _ hostOps1_5_writes h.1.1.1.1.2,
    StableHlo.after_of_writes_sub hostOps1_4 _ hostOps1_4_writes h.1.1.1.1.1]

theorem argsW_A : argsW (StableHlo.after opsA W) = argsW W := by
  unfold argsW
  rw [opsA_keep W main_v2_0 (by decide +kernel), opsA_keep W main_v2_1 (by decide +kernel), opsA_keep W main_v2_2 (by decide +kernel),
    opsA_keep W main_v2_3 (by decide +kernel), opsA_keep W main_v2_4 (by decide +kernel), opsA_keep W main_arg3 (by decide +kernel),
    opsA_keep W main_arg4 (by decide +kernel), opsA_keep W main_arg5 (by decide +kernel), opsA_keep W main_arg8 (by decide +kernel),
    opsA_keep W main_arg9 (by decide +kernel), opsA_keep W main_arg10 (by decide +kernel)]

/-- The result the lines after the decoding leave, from the contents they start with. -/
theorem tail_at (b : Fin 4) (i : Fin 512) (h : Fin 20) (d : Fin 96) (x : Fin 1920) (hx : x.val = 96 * h.val + d.val) :
    (StableHlo.after (opsA ++ opsB ++ opsC) W (Proc.devRef .tc main_v81) : FVec Ideal S4x512x1920 .bf16) (ix3 b i x)
      = outR (argsW W) (scoreR (argsW W) ((W (Proc.devRef .tc main_v1) : FVec Ideal S_ .f32) ix0) b h i) b h d := by
  rw [StableHlo.after_append]
  refine v81_at _ b i h d x hx _ _ (fun j => ?_) (fun j => ?_) (fun j => ?_)
  · rw [StableHlo.after_append, opsB_keep _ main_v2_2 (by decide +kernel), opsA_keep W main_v2_2 (by decide +kernel)]; rfl
  · rw [StableHlo.after_append]; refine (v23_at (StableHlo.after opsA W) b h j).trans ?_
    rw [opsA_keep W main_arg5 (by decide +kernel)]; rfl
  · rw [StableHlo.after_append]; refine (v61_at (StableHlo.after opsA W) (v3_at W) (v11_at W) (v15_at W) b h i j).trans ?_
    rw [argsW_A, opsA_keep W main_v1 (by decide +kernel)]

end Lines

/-! ## The decoding call -/

variable (m : (ℓ : Loc nD τ sig) → Buf (Elt Ideal) ℓ) (ρ : Dev nD → PrngReg)

/-- The arguments in memory, as the attention's arrays. -/
def argsM (c : Dev nD) : Args where
  q b i h d := (m ((c.tc : Thread nD τ).loc main_arg0) : FVec Ideal S4x512x20x96 .fp8e4m3) (ix4 b i h d)
  k b i h d := (m ((c.tc : Thread nD τ).loc main_arg1) : FVec Ideal S4x512x20x96 .fp8e4m3) (ix4 b i h d)
  v b i h d := (m ((c.tc : Thread nD τ).loc main_arg2) : FVec Ideal S4x512x20x96 .fp8e4m3) (ix4 b i h d)
  qs b i h := (m ((c.tc : Thread nD τ).loc main_arg3) : FVec Ideal S4x512x20 .f32) (ix3 b i h)
  ks b i h := (m ((c.tc : Thread nD τ).loc main_arg4) : FVec Ideal S4x512x20 .f32) (ix3 b i h)
  vs b i h := (m ((c.tc : Thread nD τ).loc main_arg5) : FVec Ideal S4x512x20 .f32) (ix3 b i h)
  kr t h d := (m ((c.tc : Thread nD τ).loc main_arg6) : FVec Ideal S256x20x96 .fp8e4m3) (ix3 t h d)
  qr t h d := (m ((c.tc : Thread nD τ).loc main_arg7) : FVec Ideal S256x20x96 .fp8e4m3) (ix3 t h d)
  krs t h := (m ((c.tc : Thread nD τ).loc main_arg8) : FVec Ideal S256x20 .f32) (ix2 t h)
  qrs t h := (m ((c.tc : Thread nD τ).loc main_arg9) : FVec Ideal S256x20 .f32) (ix2 t h)
  len b := (m ((c.tc : Thread nD τ).loc main_arg10) : IVec S4 32) (ix1 b)

theorem arr5 (c : Dev nD) : (dats m 0 c).arrAt 5 cfg0.N = (m ((c.tc : Thread nD τ).loc main_arg0) : FVec Ideal S4x512x20x96 .fp8e4m3) := by
  refine (dats m 0 c).arrAt_eq_of_covers 5 _ (by decide +kernel) fun t hf y => ?_
  blk_simp
  rw [after0_5]
  frame_out
  show V m c main_arg0 _ = _
  rw [V_main_arg0]
  rfl

theorem arr6 (c : Dev nD) : (dats m 0 c).arrAt 6 cfg0.N = (m ((c.tc : Thread nD τ).loc main_arg1) : FVec Ideal S4x512x20x96 .fp8e4m3) := by
  refine (dats m 0 c).arrAt_eq_of_covers 6 _ (by decide +kernel) fun t hf y => ?_
  blk_simp
  rw [after0_6]
  frame_out
  show V m c main_arg1 _ = _
  rw [V_main_arg1]
  rfl

theorem arr7 (c : Dev nD) : (dats m 0 c).arrAt 7 cfg0.N = (m ((c.tc : Thread nD τ).loc main_arg2) : FVec Ideal S4x512x20x96 .fp8e4m3) := by
  refine (dats m 0 c).arrAt_eq_of_covers 7 _ (by decide +kernel) fun t hf y => ?_
  blk_simp
  rw [after0_7]
  frame_out
  show V m c main_arg2 _ = _
  rw [V_main_arg2]
  rfl

theorem arr8 (c : Dev nD) : (dats m 0 c).arrAt 8 cfg0.N = (m ((c.tc : Thread nD τ).loc main_arg6) : FVec Ideal S256x20x96 .fp8e4m3) := by
  refine (dats m 0 c).arrAt_eq_of_covers 8 _ (by decide +kernel) fun t hf y => ?_
  blk_simp
  rw [after0_8]
  frame_out
  show V m c main_arg6 _ = _
  rw [V_main_arg6]
  rfl

theorem arr9 (c : Dev nD) : (dats m 0 c).arrAt 9 cfg0.N = (m ((c.tc : Thread nD τ).loc main_arg7) : FVec Ideal S256x20x96 .fp8e4m3) := by
  refine (dats m 0 c).arrAt_eq_of_covers 9 _ (by decide +kernel) fun t hf y => ?_
  blk_simp
  rw [after0_9]
  frame_out
  show V m c main_arg7 _ = _
  rw [V_main_arg7]
  rfl

/-- The contents the lines after the decoding start with. -/
abbrev Wd (c : Dev nD) : Valuation τ sig (Elt Ideal) :=
  Pipeline.withArrays (cfgs 0).spec c (V0 m c) fun w => (dats m 0 c).arrAt w (cfgs 0).N

theorem Wd_arr (c : Dev nD) (w : Fin cfg0.W) : Wd m c (Proc.devRef .tc (Pipeline.arrRef spec0 w)) = (dats m 0 c).arrAt w cfg0.N :=
  Pipeline.withArrays_arr spec0 (by decide) c (V0 m c) _ w

theorem Wd_rest (c : Dev nD) (b : Ref sig .tc) (hb : ∀ w, Pipeline.arrRef spec0 w ≠ b) : Wd m c (Proc.devRef .tc b) = V m c b :=
  Pipeline.withArrays_of_ne _ c (V0 m c) _ b hb

theorem argsW_d (c : Dev nD) : argsW (Wd m c) = argsM m c := by
  unfold argsW argsM
  rw [(Wd_arr m c 5).trans (arr5 m c), (Wd_arr m c 6).trans (arr6 m c), (Wd_arr m c 7).trans (arr7 m c), (Wd_arr m c 8).trans (arr8 m c),
    (Wd_arr m c 9).trans (arr9 m c),
    (Wd_rest m c main_arg3 (by decide)).trans (V_main_arg3 m c), (Wd_rest m c main_arg4 (by decide)).trans (V_main_arg4 m c),
    (Wd_rest m c main_arg5 (by decide)).trans (V_main_arg5 m c), (Wd_rest m c main_arg8 (by decide)).trans (V_main_arg8 m c),
    (Wd_rest m c main_arg9 (by decide)).trans (V_main_arg9 m c), (Wd_rest m c main_arg10 (by decide)).trans (V_main_arg10 m c)]

theorem scale_at (c : Dev nD) : (Wd m c (Proc.devRef .tc main_v1) : FVec Ideal S_ .f32) ix0 = (ssc : EReal) := by
  rw [Wd_rest m c main_v1 (by decide)]
  unfold V V0
  simp only [List.flatten_cons, List.flatten_nil, List.append_nil]
  after_reads_at
  rw [show Ideal.ofBits .f32 0x43900000#32 = ((288 : ℝ) : EReal) by
      simp [Ideal.ofBits, Ideal.ieee, -EReal.coe_mul]; norm_num]
  rw [Ideal.sqrt_coe, if_neg (by norm_num), show (1 : EReal) = ((1 : ℝ) : EReal) from rfl, Ideal.div_coe]
  swap; · positivity
  unfold ssc
  simp

/-- What the reference leaves in its result. -/
theorem result_at (c : Dev nD) (b : Fin 4) (i : Fin 512) (h : Fin 20) (d : Fin 96) (x : Fin 1920) (hx : x.val = 96 * h.val + d.val) :
    (Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12] c main_v81 : FVec Ideal S4x512x1920 .bf16) (ix3 b i x)
      = outR (argsM m c) (scoreR (argsM m c) (ssc : EReal) b h i) b h d := by
  refine Eq.trans ?_ ((tail_at (Wd m c) b i h d x hx).trans (by rw [argsW_d, scale_at]))
  unfold Pipeline.afterTail₀
  rw [show ([hostOps1, hostOps1_1, hostOps1_2, hostOps1_3, hostOps1_4, hostOps1_5, hostOps1_6, hostOps1_7, hostOps1_8, hostOps1_9, hostOps1_10, hostOps1_11, hostOps1_12] : List (List (HloOp τ sig (Elt Ideal)))).flatten = opsA ++ opsB ++ opsC by
    simp only [List.flatten_cons, List.flatten_nil, List.append_nil, List.append_assoc]]

end Cert.ReferenceIdeal.Hand
-- ==== Proof.Pre.lean ====
/- What the precondition says: the lengths are in range and the query scales are reals that are not negative. -/
module

public import proofs.«01_k».proof.Pre_lens_and_q_scales
public import Idealize.ShloMosaic.Lib.ReduceAll
public import Idealize.ShloMosaic.Lib.Affine
public import Idealize.ShloMosaic.Lib.Pointwise
public import Idealize.ShloMosaic.Lib.StableHlo.Predicate

@[expose] public section

set_option maxRecDepth 16384

noncomputable section

namespace Cert.Pre_lens_and_q_scales

open Idealize.ShloMosaic

theorem facts : Facts where
  bcast_S_S4 := by decide
  reducesTo_S4_S_d0 := by decide
  h_S_ := by decide
  bcast_S_S4x512x20 := by decide
  reducesTo_S4x512x20_S_d0_1_2 := by decide

instance : Subsingleton S_.Idx := ⟨fun a b => funext fun x => x.elim0⟩

theorem word_range (w : BitVec 32) (h1 : IntOp.cmpi .sge w 1#32 = 1#1) (h2 : IntOp.cmpi .sle w 512#32 = 1#1) :
    0 < w.toNat ∧ w.toNat ≤ 512 := by
  unfold IntOp.cmpi at h1 h2
  simp only [StableHlo.Predicate.ofBool_eq_one_iff, BitVec.sle, decide_eq_true_eq] at h1 h2
  have e1 : (1#32 : BitVec 32).toInt = 1 := by decide
  have e2 : (512#32 : BitVec 32).toInt = 512 := by decide
  rw [e1] at h1
  rw [e2] at h2
  have hw := w.isLt
  rw [BitVec.toInt_eq_toNat_cond] at h1 h2
  split at h1 <;> simp_all <;> omega

theorem real_of {q : EReal} (h0 : 0 ≤ q) (h1 : q < ⊤) : ∃ r : ℝ, 0 ≤ r ∧ q = (r : EReal) := by
  induction q with
  | bot => exact absurd h0 (by simp)
  | top => exact absurd h1 (by simp)
  | coe r => exact ⟨r, by exact_mod_cast h0, rfl⟩

variable [Facts]

theorem decode (a0 a1 a2 : FVec Ideal S4x512x20x96 .fp8e4m3) (a3 a4 a5 : FVec Ideal S4x512x20 .f32)
    (a6 a7 : FVec Ideal S256x20x96 .fp8e4m3) (a8 a9 : FVec Ideal S256x20 .f32) (a10 : IVec S4 32)
    (h1 : (fn (F := Ideal) a0 a1 a2 a3 a4 a5 a6 a7 a8 a9 a10).1 = fun _ => 1#1)
    (h2 : (fn (F := Ideal) a0 a1 a2 a3 a4 a5 a6 a7 a8 a9 a10).2 = fun _ => 1#1) :
    (∀ b, 0 < (a10 b).toNat ∧ (a10 b).toNat ≤ 512) ∧ ∀ i, ∃ r : ℝ, 0 ≤ r ∧ (a3 i : EReal) = (r : EReal) := by
  have h1 := congrFun h1 ix0
  have h2 := congrFun h2 ix0
  unfold fn at h1 h2
  dsimp only at h1 h2
  refine ⟨fun b => ?_, fun i => ?_⟩
  · have h := Host.reduce_andi_all _ _ _ _ ix0 h1 b
    obtain ⟨ha, hb⟩ := IntOp.andi_eq_one.1 h
    exact word_range _ ha hb
  · have h := Host.reduce_andi_all _ _ _ _ ix0 h2 i
    obtain ⟨ha, hb⟩ := IntOp.andi_eq_one.1 h
    have z : Ideal.ofBits .f32 0x00000000#32 = (0 : EReal) := by simp [Ideal.ofBits, Ideal.ieee]
    have t : Ideal.ofBits .f32 0x7F800000#32 = (⊤ : EReal) := by simp [Ideal.ofBits, Ideal.ieee]
    have ha' : (0 : EReal) ≤ a3 i := by
      rw [← z]
      exact of_decide_eq_true ((StableHlo.Predicate.ofBool_eq_one_iff _).mp ha)
    have hb' : (a3 i : EReal) < ⊤ := by
      rw [← t]
      exact of_decide_eq_true ((StableHlo.Predicate.ofBool_eq_one_iff _).mp hb)
    exact real_of ha' hb'

end Cert.Pre_lens_and_q_scales

end
-- ==== Proof.lean ====
module

public import proofs.«01_k».proof.Defs
public import proofs.«01_k».proof.Proof.P.Frame
public import proofs.«01_k».proof.Proof.PI.Frame
public import proofs.«01_k».proof.Proof.PI.Result
public import proofs.«01_k».proof.Proof.RI.Value
public import proofs.«01_k».proof.Proof.Pre
public import proofs.«01_k».proof.Proof.Gen.ReferenceIdeal.Frame
public import Idealize.ShloMosaic.Lib.Claim

@[expose] public section

set_option maxRecDepth 16384

noncomputable section

namespace Cert.Proof

open Idealize.ShloMosaic Idealize.ShloMosaic.TcCoe Idealize.SL.Sem
open Cert.Attn

attribute [local instance] Cert.Kernel.Gen.facts Cert.KernelIdeal.Gen.facts Cert.ReferenceIdeal.Gen.facts Cert.Pre_lens_and_q_scales.facts

theorem preserves : Cert.preserves_Kernel_KernelIdeal :=
  ⟨IdealRules.named_const.statement Cert.KernelIdeal.κ "qsc" .f32 0x3DAE1A93#32
      (((Real.log 2)⁻¹ * (Real.sqrt 288)⁻¹ : ℝ) : EReal) rfl,
    IdealRules.named_const.statement Cert.KernelIdeal.κ "mask" .f32 0xF149F2CA#32 ⊥ rfl⟩

/-- The precondition, read at the arguments. -/
theorem good (m : (ℓ : Loc Cert.KernelIdeal.nD Cert.KernelIdeal.τ Cert.KernelIdeal.sig) → Buf (Elt Ideal) ℓ)
    (h : Cert.Pre_KernelIdeal_lens_and_q_scales m) (c : Dev Cert.KernelIdeal.nD) :
    Cert.KernelIdeal.Hand.Good (Cert.KernelIdeal.Hand.argsK m c) := by
  obtain ⟨h1, h2⟩ := h c
  obtain ⟨hl, hq⟩ := Cert.Pre_lens_and_q_scales.decode _ _ _ _ _ _ _ _ _ _ _ h1 h2
  exact ⟨fun b => hl (ix1 b), fun b i x => hq (ix3 b i x)⟩

/-- The reference's run: its results are the attention of its arguments. -/
theorem reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v81)
          = Cert.KernelIdeal.Hand.attn (Cert.ReferenceIdeal.Hand.argsM m c)) :=
  (θ_run _ _ _).mono (fun _ h c =>
    ((h c).2 Cert.ReferenceIdeal.main_v81 (Pipeline.mem_restRefs_of Cert.ReferenceIdeal.main_v81 (by decide) (by decide))).trans
      (funext fun j => by
        have hj : (j 2 : Fin 1920).val = 96 * (Cert.KernelIdeal.Hand.hd (j 2)).val + (Cert.KernelIdeal.Hand.dd (j 2)).val := by
          show (j 2 : Fin 1920).val = 96 * ((j 2 : Fin 1920).val / 96) + (j 2 : Fin 1920).val % 96
          omega
        rw [eq_ix3 (n0 := 4) (n1 := 512) (n2 := 1920) j]
        exact Cert.ReferenceIdeal.Hand.result_at m c (j 0) (j 1) _ _ (j 2) hj))
    (Cert.ReferenceIdeal.Gen.run_main m ρ)

theorem algebraic : Cert.algebraic_KernelIdeal_ReferenceIdeal_pre_lens_and_q_scales := by
  intro m g m' g' hpre hargs
  have hA := good m hpre
  have e : ∀ c, Cert.ReferenceIdeal.Hand.argsM m' c = Cert.KernelIdeal.Hand.argsK m c := by
    intro c
    obtain ⟨h0, h1, h2, h3, h4, h5, h6, h7, h8, h9, h10⟩ := hargs c
    unfold Cert.ReferenceIdeal.Hand.argsM Cert.KernelIdeal.Hand.argsK
    rw [h0, h1, h2, h3, h4, h5, h6, h7, h8, h9, h10]
  refine ⟨fun c => Cert.KernelIdeal.Hand.attn (Cert.KernelIdeal.Hand.argsK m c), ?_, ?_⟩
  · exact (θ_run _ _ _).mono (fun _ h c => ⟨h.1 c, h.2 c⟩)
      (θ_run_and (Cert.KernelIdeal.Hand.run_value m g trivial hA) (Cert.KernelIdeal.Hand.unchanged m g trivial))
  · exact (θ_run _ _ _).mono (fun _ h c => ⟨(h.1 c).trans (congrArg Cert.KernelIdeal.Hand.attn (e c)), h.2 c⟩)
      (θ_run_and (reference m' g') (Cert.ReferenceIdeal.Gen.unchanged m' g'))

theorem claim : Cert.Claim := ⟨Cert.Kernel.Gen.facts, Cert.KernelIdeal.Gen.facts, Cert.ReferenceIdeal.Gen.facts,
  Cert.Pre_lens_and_q_scales.facts,
  fun m ρ _ => Cert.Kernel.Hand.frame m ρ trivial,
  fun m ρ _ => Cert.KernelIdeal.Hand.frame m ρ trivial,
  fun m ρ _ => Cert.KernelIdeal.Hand.frame m ρ trivial,
  fun m ρ _ => Cert.ReferenceIdeal.Gen.frame m ρ,
  fun m ρ _ => Cert.ReferenceIdeal.Gen.frame m ρ,
  preserves, algebraic⟩

end Cert.Proof

end
